-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelRefIdeal (m : (ℓ : Loc Cert.KernelRefIdeal.nD Cert.KernelRefIdeal.τ Cert.KernelRefIdeal.sig) → Buf (Elt Ideal) ℓ) : Prop :=
  True

def Pre_Hg (m : (ℓ : Loc Cert.Hg.nD Cert.Hg.τ Cert.Hg.sig) → Buf (Elt Bits) ℓ) : Prop :=
  True

def Pre_HgIdeal (m : (ℓ : Loc Cert.HgIdeal.nD Cert.HgIdeal.τ Cert.HgIdeal.sig) → Buf (Elt Ideal) ℓ) : Prop :=
  True

def Pre_HgRefIdeal (m : (ℓ : Loc Cert.HgRefIdeal.nD Cert.HgRefIdeal.τ Cert.HgRefIdeal.sig) → Buf (Elt Ideal) ℓ) : Prop :=
  True

def Pre_Qp (m : (ℓ : Loc Cert.Qp.nD Cert.Qp.τ Cert.Qp.sig) → Buf (Elt Bits) ℓ) : Prop :=
  True

def Pre_QpIdeal (m : (ℓ : Loc Cert.QpIdeal.nD Cert.QpIdeal.τ Cert.QpIdeal.sig) → Buf (Elt Ideal) ℓ) : Prop :=
  True

def Pre_QpRefIdeal (m : (ℓ : Loc Cert.QpRefIdeal.nD Cert.QpRefIdeal.τ Cert.QpRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Qi (m : (ℓ : Loc Cert.Qi.nD Cert.Qi.τ Cert.Qi.sig) → Buf (Elt Bits) ℓ) : Prop :=
  True

def Pre_QiIdeal (m : (ℓ : Loc Cert.QiIdeal.nD Cert.QiIdeal.τ Cert.QiIdeal.sig) → Buf (Elt Ideal) ℓ) : Prop :=
  True

def Pre_QiRefIdeal (m : (ℓ : Loc Cert.QiRefIdeal.nD Cert.QiRefIdeal.τ Cert.QiRefIdeal.sig) → Buf (Elt Ideal) ℓ) : Prop :=
  True

def Pre_Sm (m : (ℓ : Loc Cert.Sm.nD Cert.Sm.τ Cert.Sm.sig) → Buf (Elt Bits) ℓ) : Prop :=
  True

def Pre_SmIdeal (m : (ℓ : Loc Cert.SmIdeal.nD Cert.SmIdeal.τ Cert.SmIdeal.sig) → Buf (Elt Ideal) ℓ) : Prop :=
  True

def Pre_SmRefIdeal (m : (ℓ : Loc Cert.SmRefIdeal.nD Cert.SmRefIdeal.τ Cert.SmRefIdeal.sig) → Buf (Elt Ideal) ℓ) : Prop :=
  True

def Pre_Ga (m : (ℓ : Loc Cert.Ga.nD Cert.Ga.τ Cert.Ga.sig) → Buf (Elt Bits) ℓ) : Prop :=
  True

def Pre_GaIdeal (m : (ℓ : Loc Cert.GaIdeal.nD Cert.GaIdeal.τ Cert.GaIdeal.sig) → Buf (Elt Ideal) ℓ) : Prop :=
  True

def Pre_GaRefIdeal (m : (ℓ : Loc Cert.GaRefIdeal.nD Cert.GaRefIdeal.τ Cert.GaRefIdeal.sig) → Buf (Elt Ideal) ℓ) : Prop :=
  True

def Pre_Op (m : (ℓ : Loc Cert.Op.nD Cert.Op.τ Cert.Op.sig) → Buf (Elt Bits) ℓ) : Prop :=
  True

def Pre_OpIdeal (m : (ℓ : Loc Cert.OpIdeal.nD Cert.OpIdeal.τ Cert.OpIdeal.sig) → Buf (Elt Ideal) ℓ) : Prop :=
  True

def Pre_OpRefIdeal (m : (ℓ : Loc Cert.OpRefIdeal.nD Cert.OpRefIdeal.τ Cert.OpRefIdeal.sig) → Buf (Elt Ideal) ℓ) : Prop :=
  True

def Pre_Nm (m : (ℓ : Loc Cert.Nm.nD Cert.Nm.τ Cert.Nm.sig) → Buf (Elt Bits) ℓ) : Prop :=
  True

def Pre_NmIdeal (m : (ℓ : Loc Cert.NmIdeal.nD Cert.NmIdeal.τ Cert.NmIdeal.sig) → Buf (Elt Ideal) ℓ) : Prop :=
  True

def Pre_NmRefIdeal (m : (ℓ : Loc Cert.NmRefIdeal.nD Cert.NmRefIdeal.τ Cert.NmRefIdeal.sig) → Buf (Elt Ideal) ℓ) : Prop :=
  True

def Pre_Mg (m : (ℓ : Loc Cert.Mg.nD Cert.Mg.τ Cert.Mg.sig) → Buf (Elt Bits) ℓ) : Prop :=
  True

def Pre_MgIdeal (m : (ℓ : Loc Cert.MgIdeal.nD Cert.MgIdeal.τ Cert.MgIdeal.sig) → Buf (Elt Ideal) ℓ) : Prop :=
  True

def Pre_MgRefIdeal (m : (ℓ : Loc Cert.MgRefIdeal.nD Cert.MgRefIdeal.τ Cert.MgRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelRefIdeal [hKernelRefIdeal : Cert.KernelRefIdeal.Facts] : Prop :=
  ∀ (m : (ℓ : Loc Cert.KernelRefIdeal.nD Cert.KernelRefIdeal.τ Cert.KernelRefIdeal.sig) → Buf (Elt Ideal) ℓ) (g : Dev Cert.KernelRefIdeal.nD → PrngReg), Pre_KernelRefIdeal m →
    θ_run (Cert.KernelRefIdeal.defs (F := Ideal)) (onTc (τ := Cert.KernelRefIdeal.τ) (Cert.KernelRefIdeal.main (F := Ideal))) ⟨m, fun _ => 0, g⟩ (fun r => (∀ c : Dev Cert.KernelRefIdeal.nD,
      r.2.mem ((c.tc : Thread Cert.KernelRefIdeal.nD Cert.KernelRefIdeal.τ).loc Cert.KernelRefIdeal.main_arg0) = m ((c.tc : Thread Cert.KernelRefIdeal.nD Cert.KernelRefIdeal.τ).loc Cert.KernelRefIdeal.main_arg0)
      ∧ r.2.mem ((c.tc : Thread Cert.KernelRefIdeal.nD Cert.KernelRefIdeal.τ).loc Cert.KernelRefIdeal.main_arg1) = m ((c.tc : Thread Cert.KernelRefIdeal.nD Cert.KernelRefIdeal.τ).loc Cert.KernelRefIdeal.main_arg1)
      ∧ r.2.mem ((c.tc : Thread Cert.KernelRefIdeal.nD Cert.KernelRefIdeal.τ).loc Cert.KernelRefIdeal.main_arg2) = m ((c.tc : Thread Cert.KernelRefIdeal.nD Cert.KernelRefIdeal.τ).loc Cert.KernelRefIdeal.main_arg2)
      ∧ r.2.mem ((c.tc : Thread Cert.KernelRefIdeal.nD Cert.KernelRefIdeal.τ).loc Cert.KernelRefIdeal.main_arg3) = m ((c.tc : Thread Cert.KernelRefIdeal.nD Cert.KernelRefIdeal.τ).loc Cert.KernelRefIdeal.main_arg3))
      ∧ r.2.sem = fun _ => 0)

def quiescent_Hg [hHg : Cert.Hg.Facts] : Prop :=
  ∀ (m : (ℓ : Loc Cert.Hg.nD Cert.Hg.τ Cert.Hg.sig) → Buf (Elt Bits) ℓ) (g : Dev Cert.Hg.nD → PrngReg), Pre_Hg m →
    θ_run (Cert.Hg.defs (F := Bits)) (onTc (τ := Cert.Hg.τ) (Cert.Hg.main (F := Bits))) ⟨m, fun _ => 0, g⟩ (fun r => (∀ c : Dev Cert.Hg.nD,
      r.2.mem ((c.tc : Thread Cert.Hg.nD Cert.Hg.τ).loc Cert.Hg.main_arg0) = m ((c.tc : Thread Cert.Hg.nD Cert.Hg.τ).loc Cert.Hg.main_arg0)
      ∧ r.2.mem ((c.tc : Thread Cert.Hg.nD Cert.Hg.τ).loc Cert.Hg.main_arg1) = m ((c.tc : Thread Cert.Hg.nD Cert.Hg.τ).loc Cert.Hg.main_arg1))
      ∧ r.2.sem = fun _ => 0)

def quiescent_HgIdeal [hHgIdeal : Cert.HgIdeal.Facts] : Prop :=
  ∀ (m : (ℓ : Loc Cert.HgIdeal.nD Cert.HgIdeal.τ Cert.HgIdeal.sig) → Buf (Elt Ideal) ℓ) (g : Dev Cert.HgIdeal.nD → PrngReg), Pre_HgIdeal m →
    θ_run (Cert.HgIdeal.defs (F := Ideal)) (onTc (τ := Cert.HgIdeal.τ) (Cert.HgIdeal.main (F := Ideal))) ⟨m, fun _ => 0, g⟩ (fun r => (∀ c : Dev Cert.HgIdeal.nD,
      r.2.mem ((c.tc : Thread Cert.HgIdeal.nD Cert.HgIdeal.τ).loc Cert.HgIdeal.main_arg0) = m ((c.tc : Thread Cert.HgIdeal.nD Cert.HgIdeal.τ).loc Cert.HgIdeal.main_arg0)
      ∧ r.2.mem ((c.tc : Thread Cert.HgIdeal.nD Cert.HgIdeal.τ).loc Cert.HgIdeal.main_arg1) = m ((c.tc : Thread Cert.HgIdeal.nD Cert.HgIdeal.τ).loc Cert.HgIdeal.main_arg1))
      ∧ r.2.sem = fun _ => 0)

def quiescent_HgRefIdeal [hHgRefIdeal : Cert.HgRefIdeal.Facts] : Prop :=
  ∀ (m : (ℓ : Loc Cert.HgRefIdeal.nD Cert.HgRefIdeal.τ Cert.HgRefIdeal.sig) → Buf (Elt Ideal) ℓ) (g : Dev Cert.HgRefIdeal.nD → PrngReg), Pre_HgRefIdeal m →
    θ_run (Cert.HgRefIdeal.defs (F := Ideal)) (onTc (τ := Cert.HgRefIdeal.τ) (Cert.HgRefIdeal.main (F := Ideal))) ⟨m, fun _ => 0, g⟩ (fun r => (∀ c : Dev Cert.HgRefIdeal.nD,
      r.2.mem ((c.tc : Thread Cert.HgRefIdeal.nD Cert.HgRefIdeal.τ).loc Cert.HgRefIdeal.main_arg0) = m ((c.tc : Thread Cert.HgRefIdeal.nD Cert.HgRefIdeal.τ).loc Cert.HgRefIdeal.main_arg0)
      ∧ r.2.mem ((c.tc : Thread Cert.HgRefIdeal.nD Cert.HgRefIdeal.τ).loc Cert.HgRefIdeal.main_arg1) = m ((c.tc : Thread Cert.HgRefIdeal.nD Cert.HgRefIdeal.τ).loc Cert.HgRefIdeal.main_arg1))
      ∧ r.2.sem = fun _ => 0)

def quiescent_Qp [hQp : Cert.Qp.Facts] : Prop :=
  ∀ (m : (ℓ : Loc Cert.Qp.nD Cert.Qp.τ Cert.Qp.sig) → Buf (Elt Bits) ℓ) (g : Dev Cert.Qp.nD → PrngReg), Pre_Qp m →
    θ_run (Cert.Qp.defs (F := Bits)) (onTc (τ := Cert.Qp.τ) (Cert.Qp.main (F := Bits))) ⟨m, fun _ => 0, g⟩ (fun r => (∀ c : Dev Cert.Qp.nD,
      r.2.mem ((c.tc : Thread Cert.Qp.nD Cert.Qp.τ).loc Cert.Qp.main_arg0) = m ((c.tc : Thread Cert.Qp.nD Cert.Qp.τ).loc Cert.Qp.main_arg0)
      ∧ r.2.mem ((c.tc : Thread Cert.Qp.nD Cert.Qp.τ).loc Cert.Qp.main_arg1) = m ((c.tc : Thread Cert.Qp.nD Cert.Qp.τ).loc Cert.Qp.main_arg1))
      ∧ r.2.sem = fun _ => 0)

def quiescent_QpIdeal [hQpIdeal : Cert.QpIdeal.Facts] : Prop :=
  ∀ (m : (ℓ : Loc Cert.QpIdeal.nD Cert.QpIdeal.τ Cert.QpIdeal.sig) → Buf (Elt Ideal) ℓ) (g : Dev Cert.QpIdeal.nD → PrngReg), Pre_QpIdeal m →
    θ_run (Cert.QpIdeal.defs (F := Ideal)) (onTc (τ := Cert.QpIdeal.τ) (Cert.QpIdeal.main (F := Ideal))) ⟨m, fun _ => 0, g⟩ (fun r => (∀ c : Dev Cert.QpIdeal.nD,
      r.2.mem ((c.tc : Thread Cert.QpIdeal.nD Cert.QpIdeal.τ).loc Cert.QpIdeal.main_arg0) = m ((c.tc : Thread Cert.QpIdeal.nD Cert.QpIdeal.τ).loc Cert.QpIdeal.main_arg0)
      ∧ r.2.mem ((c.tc : Thread Cert.QpIdeal.nD Cert.QpIdeal.τ).loc Cert.QpIdeal.main_arg1) = m ((c.tc : Thread Cert.QpIdeal.nD Cert.QpIdeal.τ).loc Cert.QpIdeal.main_arg1))
      ∧ r.2.sem = fun _ => 0)

def quiescent_QpRefIdeal [hQpRefIdeal : Cert.QpRefIdeal.Facts] : Prop :=
  ∀ (m : (ℓ : Loc Cert.QpRefIdeal.nD Cert.QpRefIdeal.τ Cert.QpRefIdeal.sig) → Buf (Elt Ideal) ℓ) (g : Dev Cert.QpRefIdeal.nD → PrngReg), Pre_QpRefIdeal m →
    θ_run (Cert.QpRefIdeal.defs (F := Ideal)) (onTc (τ := Cert.QpRefIdeal.τ) (Cert.QpRefIdeal.main (F := Ideal))) ⟨m, fun _ => 0, g⟩ (fun r => (∀ c : Dev Cert.QpRefIdeal.nD,
      r.2.mem ((c.tc : Thread Cert.QpRefIdeal.nD Cert.QpRefIdeal.τ).loc Cert.QpRefIdeal.main_arg0) = m ((c.tc : Thread Cert.QpRefIdeal.nD Cert.QpRefIdeal.τ).loc Cert.QpRefIdeal.main_arg0)
      ∧ r.2.mem ((c.tc : Thread Cert.QpRefIdeal.nD Cert.QpRefIdeal.τ).loc Cert.QpRefIdeal.main_arg1) = m ((c.tc : Thread Cert.QpRefIdeal.nD Cert.QpRefIdeal.τ).loc Cert.QpRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Qi [hQi : Cert.Qi.Facts] : Prop :=
  ∀ (m : (ℓ : Loc Cert.Qi.nD Cert.Qi.τ Cert.Qi.sig) → Buf (Elt Bits) ℓ) (g : Dev Cert.Qi.nD → PrngReg), Pre_Qi m →
    θ_run (Cert.Qi.defs (F := Bits)) (onTc (τ := Cert.Qi.τ) (Cert.Qi.main (F := Bits))) ⟨m, fun _ => 0, g⟩ (fun r => (∀ c : Dev Cert.Qi.nD,
      r.2.mem ((c.tc : Thread Cert.Qi.nD Cert.Qi.τ).loc Cert.Qi.main_arg0) = m ((c.tc : Thread Cert.Qi.nD Cert.Qi.τ).loc Cert.Qi.main_arg0)
      ∧ r.2.mem ((c.tc : Thread Cert.Qi.nD Cert.Qi.τ).loc Cert.Qi.main_arg1) = m ((c.tc : Thread Cert.Qi.nD Cert.Qi.τ).loc Cert.Qi.main_arg1))
      ∧ r.2.sem = fun _ => 0)

def quiescent_QiIdeal [hQiIdeal : Cert.QiIdeal.Facts] : Prop :=
  ∀ (m : (ℓ : Loc Cert.QiIdeal.nD Cert.QiIdeal.τ Cert.QiIdeal.sig) → Buf (Elt Ideal) ℓ) (g : Dev Cert.QiIdeal.nD → PrngReg), Pre_QiIdeal m →
    θ_run (Cert.QiIdeal.defs (F := Ideal)) (onTc (τ := Cert.QiIdeal.τ) (Cert.QiIdeal.main (F := Ideal))) ⟨m, fun _ => 0, g⟩ (fun r => (∀ c : Dev Cert.QiIdeal.nD,
      r.2.mem ((c.tc : Thread Cert.QiIdeal.nD Cert.QiIdeal.τ).loc Cert.QiIdeal.main_arg0) = m ((c.tc : Thread Cert.QiIdeal.nD Cert.QiIdeal.τ).loc Cert.QiIdeal.main_arg0)
      ∧ r.2.mem ((c.tc : Thread Cert.QiIdeal.nD Cert.QiIdeal.τ).loc Cert.QiIdeal.main_arg1) = m ((c.tc : Thread Cert.QiIdeal.nD Cert.QiIdeal.τ).loc Cert.QiIdeal.main_arg1))
      ∧ r.2.sem = fun _ => 0)

def quiescent_QiRefIdeal [hQiRefIdeal : Cert.QiRefIdeal.Facts] : Prop :=
  ∀ (m : (ℓ : Loc Cert.QiRefIdeal.nD Cert.QiRefIdeal.τ Cert.QiRefIdeal.sig) → Buf (Elt Ideal) ℓ) (g : Dev Cert.QiRefIdeal.nD → PrngReg), Pre_QiRefIdeal m →
    θ_run (Cert.QiRefIdeal.defs (F := Ideal)) (onTc (τ := Cert.QiRefIdeal.τ) (Cert.QiRefIdeal.main (F := Ideal))) ⟨m, fun _ => 0, g⟩ (fun r => (∀ c : Dev Cert.QiRefIdeal.nD,
      r.2.mem ((c.tc : Thread Cert.QiRefIdeal.nD Cert.QiRefIdeal.τ).loc Cert.QiRefIdeal.main_arg0) = m ((c.tc : Thread Cert.QiRefIdeal.nD Cert.QiRefIdeal.τ).loc Cert.QiRefIdeal.main_arg0)
      ∧ r.2.mem ((c.tc : Thread Cert.QiRefIdeal.nD Cert.QiRefIdeal.τ).loc Cert.QiRefIdeal.main_arg1) = m ((c.tc : Thread Cert.QiRefIdeal.nD Cert.QiRefIdeal.τ).loc Cert.QiRefIdeal.main_arg1))
      ∧ r.2.sem = fun _ => 0)

def quiescent_Sm [hSm : Cert.Sm.Facts] : Prop :=
  ∀ (m : (ℓ : Loc Cert.Sm.nD Cert.Sm.τ Cert.Sm.sig) → Buf (Elt Bits) ℓ) (g : Dev Cert.Sm.nD → PrngReg), Pre_Sm m →
    θ_run (Cert.Sm.defs (F := Bits)) (onTc (τ := Cert.Sm.τ) (Cert.Sm.main (F := Bits))) ⟨m, fun _ => 0, g⟩ (fun r => (∀ c : Dev Cert.Sm.nD,
      r.2.mem ((c.tc : Thread Cert.Sm.nD Cert.Sm.τ).loc Cert.Sm.main_arg0) = m ((c.tc : Thread Cert.Sm.nD Cert.Sm.τ).loc Cert.Sm.main_arg0)
      ∧ r.2.mem ((c.tc : Thread Cert.Sm.nD Cert.Sm.τ).loc Cert.Sm.main_arg1) = m ((c.tc : Thread Cert.Sm.nD Cert.Sm.τ).loc Cert.Sm.main_arg1))
      ∧ r.2.sem = fun _ => 0)

def quiescent_SmIdeal [hSmIdeal : Cert.SmIdeal.Facts] : Prop :=
  ∀ (m : (ℓ : Loc Cert.SmIdeal.nD Cert.SmIdeal.τ Cert.SmIdeal.sig) → Buf (Elt Ideal) ℓ) (g : Dev Cert.SmIdeal.nD → PrngReg), Pre_SmIdeal m →
    θ_run (Cert.SmIdeal.defs (F := Ideal)) (onTc (τ := Cert.SmIdeal.τ) (Cert.SmIdeal.main (F := Ideal))) ⟨m, fun _ => 0, g⟩ (fun r => (∀ c : Dev Cert.SmIdeal.nD,
      r.2.mem ((c.tc : Thread Cert.SmIdeal.nD Cert.SmIdeal.τ).loc Cert.SmIdeal.main_arg0) = m ((c.tc : Thread Cert.SmIdeal.nD Cert.SmIdeal.τ).loc Cert.SmIdeal.main_arg0)
      ∧ r.2.mem ((c.tc : Thread Cert.SmIdeal.nD Cert.SmIdeal.τ).loc Cert.SmIdeal.main_arg1) = m ((c.tc : Thread Cert.SmIdeal.nD Cert.SmIdeal.τ).loc Cert.SmIdeal.main_arg1))
      ∧ r.2.sem = fun _ => 0)

def quiescent_SmRefIdeal [hSmRefIdeal : Cert.SmRefIdeal.Facts] : Prop :=
  ∀ (m : (ℓ : Loc Cert.SmRefIdeal.nD Cert.SmRefIdeal.τ Cert.SmRefIdeal.sig) → Buf (Elt Ideal) ℓ) (g : Dev Cert.SmRefIdeal.nD → PrngReg), Pre_SmRefIdeal m →
    θ_run (Cert.SmRefIdeal.defs (F := Ideal)) (onTc (τ := Cert.SmRefIdeal.τ) (Cert.SmRefIdeal.main (F := Ideal))) ⟨m, fun _ => 0, g⟩ (fun r => (∀ c : Dev Cert.SmRefIdeal.nD,
      r.2.mem ((c.tc : Thread Cert.SmRefIdeal.nD Cert.SmRefIdeal.τ).loc Cert.SmRefIdeal.main_arg0) = m ((c.tc : Thread Cert.SmRefIdeal.nD Cert.SmRefIdeal.τ).loc Cert.SmRefIdeal.main_arg0)
      ∧ r.2.mem ((c.tc : Thread Cert.SmRefIdeal.nD Cert.SmRefIdeal.τ).loc Cert.SmRefIdeal.main_arg1) = m ((c.tc : Thread Cert.SmRefIdeal.nD Cert.SmRefIdeal.τ).loc Cert.SmRefIdeal.main_arg1))
      ∧ r.2.sem = fun _ => 0)

def quiescent_Ga [hGa : Cert.Ga.Facts] : Prop :=
  ∀ (m : (ℓ : Loc Cert.Ga.nD Cert.Ga.τ Cert.Ga.sig) → Buf (Elt Bits) ℓ) (g : Dev Cert.Ga.nD → PrngReg), Pre_Ga m →
    θ_run (Cert.Ga.defs (F := Bits)) (onTc (τ := Cert.Ga.τ) (Cert.Ga.main (F := Bits))) ⟨m, fun _ => 0, g⟩ (fun r => (∀ c : Dev Cert.Ga.nD,
      r.2.mem ((c.tc : Thread Cert.Ga.nD Cert.Ga.τ).loc Cert.Ga.main_arg0) = m ((c.tc : Thread Cert.Ga.nD Cert.Ga.τ).loc Cert.Ga.main_arg0)
      ∧ r.2.mem ((c.tc : Thread Cert.Ga.nD Cert.Ga.τ).loc Cert.Ga.main_arg1) = m ((c.tc : Thread Cert.Ga.nD Cert.Ga.τ).loc Cert.Ga.main_arg1))
      ∧ r.2.sem = fun _ => 0)

def quiescent_GaIdeal [hGaIdeal : Cert.GaIdeal.Facts] : Prop :=
  ∀ (m : (ℓ : Loc Cert.GaIdeal.nD Cert.GaIdeal.τ Cert.GaIdeal.sig) → Buf (Elt Ideal) ℓ) (g : Dev Cert.GaIdeal.nD → PrngReg), Pre_GaIdeal m →
    θ_run (Cert.GaIdeal.defs (F := Ideal)) (onTc (τ := Cert.GaIdeal.τ) (Cert.GaIdeal.main (F := Ideal))) ⟨m, fun _ => 0, g⟩ (fun r => (∀ c : Dev Cert.GaIdeal.nD,
      r.2.mem ((c.tc : Thread Cert.GaIdeal.nD Cert.GaIdeal.τ).loc Cert.GaIdeal.main_arg0) = m ((c.tc : Thread Cert.GaIdeal.nD Cert.GaIdeal.τ).loc Cert.GaIdeal.main_arg0)
      ∧ r.2.mem ((c.tc : Thread Cert.GaIdeal.nD Cert.GaIdeal.τ).loc Cert.GaIdeal.main_arg1) = m ((c.tc : Thread Cert.GaIdeal.nD Cert.GaIdeal.τ).loc Cert.GaIdeal.main_arg1))
      ∧ r.2.sem = fun _ => 0)

def quiescent_GaRefIdeal [hGaRefIdeal : Cert.GaRefIdeal.Facts] : Prop :=
  ∀ (m : (ℓ : Loc Cert.GaRefIdeal.nD Cert.GaRefIdeal.τ Cert.GaRefIdeal.sig) → Buf (Elt Ideal) ℓ) (g : Dev Cert.GaRefIdeal.nD → PrngReg), Pre_GaRefIdeal m →
    θ_run (Cert.GaRefIdeal.defs (F := Ideal)) (onTc (τ := Cert.GaRefIdeal.τ) (Cert.GaRefIdeal.main (F := Ideal))) ⟨m, fun _ => 0, g⟩ (fun r => (∀ c : Dev Cert.GaRefIdeal.nD,
      r.2.mem ((c.tc : Thread Cert.GaRefIdeal.nD Cert.GaRefIdeal.τ).loc Cert.GaRefIdeal.main_arg0) = m ((c.tc : Thread Cert.GaRefIdeal.nD Cert.GaRefIdeal.τ).loc Cert.GaRefIdeal.main_arg0)
      ∧ r.2.mem ((c.tc : Thread Cert.GaRefIdeal.nD Cert.GaRefIdeal.τ).loc Cert.GaRefIdeal.main_arg1) = m ((c.tc : Thread Cert.GaRefIdeal.nD Cert.GaRefIdeal.τ).loc Cert.GaRefIdeal.main_arg1))
      ∧ r.2.sem = fun _ => 0)

def quiescent_Op [hOp : Cert.Op.Facts] : Prop :=
  ∀ (m : (ℓ : Loc Cert.Op.nD Cert.Op.τ Cert.Op.sig) → Buf (Elt Bits) ℓ) (g : Dev Cert.Op.nD → PrngReg), Pre_Op m →
    θ_run (Cert.Op.defs (F := Bits)) (onTc (τ := Cert.Op.τ) (Cert.Op.main (F := Bits))) ⟨m, fun _ => 0, g⟩ (fun r => (∀ c : Dev Cert.Op.nD,
      r.2.mem ((c.tc : Thread Cert.Op.nD Cert.Op.τ).loc Cert.Op.main_arg0) = m ((c.tc : Thread Cert.Op.nD Cert.Op.τ).loc Cert.Op.main_arg0)
      ∧ r.2.mem ((c.tc : Thread Cert.Op.nD Cert.Op.τ).loc Cert.Op.main_arg1) = m ((c.tc : Thread Cert.Op.nD Cert.Op.τ).loc Cert.Op.main_arg1)
      ∧ r.2.mem ((c.tc : Thread Cert.Op.nD Cert.Op.τ).loc Cert.Op.main_arg2) = m ((c.tc : Thread Cert.Op.nD Cert.Op.τ).loc Cert.Op.main_arg2))
      ∧ r.2.sem = fun _ => 0)

def quiescent_OpIdeal [hOpIdeal : Cert.OpIdeal.Facts] : Prop :=
  ∀ (m : (ℓ : Loc Cert.OpIdeal.nD Cert.OpIdeal.τ Cert.OpIdeal.sig) → Buf (Elt Ideal) ℓ) (g : Dev Cert.OpIdeal.nD → PrngReg), Pre_OpIdeal m →
    θ_run (Cert.OpIdeal.defs (F := Ideal)) (onTc (τ := Cert.OpIdeal.τ) (Cert.OpIdeal.main (F := Ideal))) ⟨m, fun _ => 0, g⟩ (fun r => (∀ c : Dev Cert.OpIdeal.nD,
      r.2.mem ((c.tc : Thread Cert.OpIdeal.nD Cert.OpIdeal.τ).loc Cert.OpIdeal.main_arg0) = m ((c.tc : Thread Cert.OpIdeal.nD Cert.OpIdeal.τ).loc Cert.OpIdeal.main_arg0)
      ∧ r.2.mem ((c.tc : Thread Cert.OpIdeal.nD Cert.OpIdeal.τ).loc Cert.OpIdeal.main_arg1) = m ((c.tc : Thread Cert.OpIdeal.nD Cert.OpIdeal.τ).loc Cert.OpIdeal.main_arg1)
      ∧ r.2.mem ((c.tc : Thread Cert.OpIdeal.nD Cert.OpIdeal.τ).loc Cert.OpIdeal.main_arg2) = m ((c.tc : Thread Cert.OpIdeal.nD Cert.OpIdeal.τ).loc Cert.OpIdeal.main_arg2))
      ∧ r.2.sem = fun _ => 0)

def quiescent_OpRefIdeal [hOpRefIdeal : Cert.OpRefIdeal.Facts] : Prop :=
  ∀ (m : (ℓ : Loc Cert.OpRefIdeal.nD Cert.OpRefIdeal.τ Cert.OpRefIdeal.sig) → Buf (Elt Ideal) ℓ) (g : Dev Cert.OpRefIdeal.nD → PrngReg), Pre_OpRefIdeal m →
    θ_run (Cert.OpRefIdeal.defs (F := Ideal)) (onTc (τ := Cert.OpRefIdeal.τ) (Cert.OpRefIdeal.main (F := Ideal))) ⟨m, fun _ => 0, g⟩ (fun r => (∀ c : Dev Cert.OpRefIdeal.nD,
      r.2.mem ((c.tc : Thread Cert.OpRefIdeal.nD Cert.OpRefIdeal.τ).loc Cert.OpRefIdeal.main_arg0) = m ((c.tc : Thread Cert.OpRefIdeal.nD Cert.OpRefIdeal.τ).loc Cert.OpRefIdeal.main_arg0)
      ∧ r.2.mem ((c.tc : Thread Cert.OpRefIdeal.nD Cert.OpRefIdeal.τ).loc Cert.OpRefIdeal.main_arg1) = m ((c.tc : Thread Cert.OpRefIdeal.nD Cert.OpRefIdeal.τ).loc Cert.OpRefIdeal.main_arg1)
      ∧ r.2.mem ((c.tc : Thread Cert.OpRefIdeal.nD Cert.OpRefIdeal.τ).loc Cert.OpRefIdeal.main_arg2) = m ((c.tc : Thread Cert.OpRefIdeal.nD Cert.OpRefIdeal.τ).loc Cert.OpRefIdeal.main_arg2))
      ∧ r.2.sem = fun _ => 0)

def quiescent_Nm [hNm : Cert.Nm.Facts] : Prop :=
  ∀ (m : (ℓ : Loc Cert.Nm.nD Cert.Nm.τ Cert.Nm.sig) → Buf (Elt Bits) ℓ) (g : Dev Cert.Nm.nD → PrngReg), Pre_Nm m →
    θ_run (Cert.Nm.defs (F := Bits)) (onTc (τ := Cert.Nm.τ) (Cert.Nm.main (F := Bits))) ⟨m, fun _ => 0, g⟩ (fun r => (∀ c : Dev Cert.Nm.nD,
      r.2.mem ((c.tc : Thread Cert.Nm.nD Cert.Nm.τ).loc Cert.Nm.main_arg0) = m ((c.tc : Thread Cert.Nm.nD Cert.Nm.τ).loc Cert.Nm.main_arg0)
      ∧ r.2.mem ((c.tc : Thread Cert.Nm.nD Cert.Nm.τ).loc Cert.Nm.main_arg1) = m ((c.tc : Thread Cert.Nm.nD Cert.Nm.τ).loc Cert.Nm.main_arg1)
      ∧ r.2.mem ((c.tc : Thread Cert.Nm.nD Cert.Nm.τ).loc Cert.Nm.main_arg2) = m ((c.tc : Thread Cert.Nm.nD Cert.Nm.τ).loc Cert.Nm.main_arg2))
      ∧ r.2.sem = fun _ => 0)

def quiescent_NmIdeal [hNmIdeal : Cert.NmIdeal.Facts] : Prop :=
  ∀ (m : (ℓ : Loc Cert.NmIdeal.nD Cert.NmIdeal.τ Cert.NmIdeal.sig) → Buf (Elt Ideal) ℓ) (g : Dev Cert.NmIdeal.nD → PrngReg), Pre_NmIdeal m →
    θ_run (Cert.NmIdeal.defs (F := Ideal)) (onTc (τ := Cert.NmIdeal.τ) (Cert.NmIdeal.main (F := Ideal))) ⟨m, fun _ => 0, g⟩ (fun r => (∀ c : Dev Cert.NmIdeal.nD,
      r.2.mem ((c.tc : Thread Cert.NmIdeal.nD Cert.NmIdeal.τ).loc Cert.NmIdeal.main_arg0) = m ((c.tc : Thread Cert.NmIdeal.nD Cert.NmIdeal.τ).loc Cert.NmIdeal.main_arg0)
      ∧ r.2.mem ((c.tc : Thread Cert.NmIdeal.nD Cert.NmIdeal.τ).loc Cert.NmIdeal.main_arg1) = m ((c.tc : Thread Cert.NmIdeal.nD Cert.NmIdeal.τ).loc Cert.NmIdeal.main_arg1)
      ∧ r.2.mem ((c.tc : Thread Cert.NmIdeal.nD Cert.NmIdeal.τ).loc Cert.NmIdeal.main_arg2) = m ((c.tc : Thread Cert.NmIdeal.nD Cert.NmIdeal.τ).loc Cert.NmIdeal.main_arg2))
      ∧ r.2.sem = fun _ => 0)

def quiescent_NmRefIdeal [hNmRefIdeal : Cert.NmRefIdeal.Facts] : Prop :=
  ∀ (m : (ℓ : Loc Cert.NmRefIdeal.nD Cert.NmRefIdeal.τ Cert.NmRefIdeal.sig) → Buf (Elt Ideal) ℓ) (g : Dev Cert.NmRefIdeal.nD → PrngReg), Pre_NmRefIdeal m →
    θ_run (Cert.NmRefIdeal.defs (F := Ideal)) (onTc (τ := Cert.NmRefIdeal.τ) (Cert.NmRefIdeal.main (F := Ideal))) ⟨m, fun _ => 0, g⟩ (fun r => (∀ c : Dev Cert.NmRefIdeal.nD,
      r.2.mem ((c.tc : Thread Cert.NmRefIdeal.nD Cert.NmRefIdeal.τ).loc Cert.NmRefIdeal.main_arg0) = m ((c.tc : Thread Cert.NmRefIdeal.nD Cert.NmRefIdeal.τ).loc Cert.NmRefIdeal.main_arg0)
      ∧ r.2.mem ((c.tc : Thread Cert.NmRefIdeal.nD Cert.NmRefIdeal.τ).loc Cert.NmRefIdeal.main_arg1) = m ((c.tc : Thread Cert.NmRefIdeal.nD Cert.NmRefIdeal.τ).loc Cert.NmRefIdeal.main_arg1)
      ∧ r.2.mem ((c.tc : Thread Cert.NmRefIdeal.nD Cert.NmRefIdeal.τ).loc Cert.NmRefIdeal.main_arg2) = m ((c.tc : Thread Cert.NmRefIdeal.nD Cert.NmRefIdeal.τ).loc Cert.NmRefIdeal.main_arg2))
      ∧ r.2.sem = fun _ => 0)

def quiescent_Mg [hMg : Cert.Mg.Facts] : Prop :=
  ∀ (m : (ℓ : Loc Cert.Mg.nD Cert.Mg.τ Cert.Mg.sig) → Buf (Elt Bits) ℓ) (g : Dev Cert.Mg.nD → PrngReg), Pre_Mg m →
    θ_run (Cert.Mg.defs (F := Bits)) (onTc (τ := Cert.Mg.τ) (Cert.Mg.main (F := Bits))) ⟨m, fun _ => 0, g⟩ (fun r => (∀ c : Dev Cert.Mg.nD,
      r.2.mem ((c.tc : Thread Cert.Mg.nD Cert.Mg.τ).loc Cert.Mg.main_arg0) = m ((c.tc : Thread Cert.Mg.nD Cert.Mg.τ).loc Cert.Mg.main_arg0)
      ∧ r.2.mem ((c.tc : Thread Cert.Mg.nD Cert.Mg.τ).loc Cert.Mg.main_arg1) = m ((c.tc : Thread Cert.Mg.nD Cert.Mg.τ).loc Cert.Mg.main_arg1)
      ∧ r.2.mem ((c.tc : Thread Cert.Mg.nD Cert.Mg.τ).loc Cert.Mg.main_arg2) = m ((c.tc : Thread Cert.Mg.nD Cert.Mg.τ).loc Cert.Mg.main_arg2)
      ∧ r.2.mem ((c.tc : Thread Cert.Mg.nD Cert.Mg.τ).loc Cert.Mg.main_arg3) = m ((c.tc : Thread Cert.Mg.nD Cert.Mg.τ).loc Cert.Mg.main_arg3)
      ∧ r.2.mem ((c.tc : Thread Cert.Mg.nD Cert.Mg.τ).loc Cert.Mg.main_arg4) = m ((c.tc : Thread Cert.Mg.nD Cert.Mg.τ).loc Cert.Mg.main_arg4))
      ∧ r.2.sem = fun _ => 0)

def quiescent_MgIdeal [hMgIdeal : Cert.MgIdeal.Facts] : Prop :=
  ∀ (m : (ℓ : Loc Cert.MgIdeal.nD Cert.MgIdeal.τ Cert.MgIdeal.sig) → Buf (Elt Ideal) ℓ) (g : Dev Cert.MgIdeal.nD → PrngReg), Pre_MgIdeal m →
    θ_run (Cert.MgIdeal.defs (F := Ideal)) (onTc (τ := Cert.MgIdeal.τ) (Cert.MgIdeal.main (F := Ideal))) ⟨m, fun _ => 0, g⟩ (fun r => (∀ c : Dev Cert.MgIdeal.nD,
      r.2.mem ((c.tc : Thread Cert.MgIdeal.nD Cert.MgIdeal.τ).loc Cert.MgIdeal.main_arg0) = m ((c.tc : Thread Cert.MgIdeal.nD Cert.MgIdeal.τ).loc Cert.MgIdeal.main_arg0)
      ∧ r.2.mem ((c.tc : Thread Cert.MgIdeal.nD Cert.MgIdeal.τ).loc Cert.MgIdeal.main_arg1) = m ((c.tc : Thread Cert.MgIdeal.nD Cert.MgIdeal.τ).loc Cert.MgIdeal.main_arg1)
      ∧ r.2.mem ((c.tc : Thread Cert.MgIdeal.nD Cert.MgIdeal.τ).loc Cert.MgIdeal.main_arg2) = m ((c.tc : Thread Cert.MgIdeal.nD Cert.MgIdeal.τ).loc Cert.MgIdeal.main_arg2)
      ∧ r.2.mem ((c.tc : Thread Cert.MgIdeal.nD Cert.MgIdeal.τ).loc Cert.MgIdeal.main_arg3) = m ((c.tc : Thread Cert.MgIdeal.nD Cert.MgIdeal.τ).loc Cert.MgIdeal.main_arg3)
      ∧ r.2.mem ((c.tc : Thread Cert.MgIdeal.nD Cert.MgIdeal.τ).loc Cert.MgIdeal.main_arg4) = m ((c.tc : Thread Cert.MgIdeal.nD Cert.MgIdeal.τ).loc Cert.MgIdeal.main_arg4))
      ∧ r.2.sem = fun _ => 0)

def quiescent_MgRefIdeal [hMgRefIdeal : Cert.MgRefIdeal.Facts] : Prop :=
  ∀ (m : (ℓ : Loc Cert.MgRefIdeal.nD Cert.MgRefIdeal.τ Cert.MgRefIdeal.sig) → Buf (Elt Ideal) ℓ) (g : Dev Cert.MgRefIdeal.nD → PrngReg), Pre_MgRefIdeal m →
    θ_run (Cert.MgRefIdeal.defs (F := Ideal)) (onTc (τ := Cert.MgRefIdeal.τ) (Cert.MgRefIdeal.main (F := Ideal))) ⟨m, fun _ => 0, g⟩ (fun r => (∀ c : Dev Cert.MgRefIdeal.nD,
      r.2.mem ((c.tc : Thread Cert.MgRefIdeal.nD Cert.MgRefIdeal.τ).loc Cert.MgRefIdeal.main_arg0) = m ((c.tc : Thread Cert.MgRefIdeal.nD Cert.MgRefIdeal.τ).loc Cert.MgRefIdeal.main_arg0)
      ∧ r.2.mem ((c.tc : Thread Cert.MgRefIdeal.nD Cert.MgRefIdeal.τ).loc Cert.MgRefIdeal.main_arg1) = m ((c.tc : Thread Cert.MgRefIdeal.nD Cert.MgRefIdeal.τ).loc Cert.MgRefIdeal.main_arg1)
      ∧ r.2.mem ((c.tc : Thread Cert.MgRefIdeal.nD Cert.MgRefIdeal.τ).loc Cert.MgRefIdeal.main_arg2) = m ((c.tc : Thread Cert.MgRefIdeal.nD Cert.MgRefIdeal.τ).loc Cert.MgRefIdeal.main_arg2)
      ∧ r.2.mem ((c.tc : Thread Cert.MgRefIdeal.nD Cert.MgRefIdeal.τ).loc Cert.MgRefIdeal.main_arg3) = m ((c.tc : Thread Cert.MgRefIdeal.nD Cert.MgRefIdeal.τ).loc Cert.MgRefIdeal.main_arg3)
      ∧ r.2.mem ((c.tc : Thread Cert.MgRefIdeal.nD Cert.MgRefIdeal.τ).loc Cert.MgRefIdeal.main_arg4) = m ((c.tc : Thread Cert.MgRefIdeal.nD Cert.MgRefIdeal.τ).loc Cert.MgRefIdeal.main_arg4))
      ∧ r.2.sem = fun _ => 0)

def preserves_Kernel_KernelIdeal : Prop :=
  True

def algebraic_KernelIdeal_KernelRefIdeal [hKernelIdeal : Cert.KernelIdeal.Facts] [hKernelRefIdeal : Cert.KernelRefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.KernelRefIdeal.nD Cert.KernelRefIdeal.τ Cert.KernelRefIdeal.sig) → Buf (Elt Ideal) ℓ) (g' : Dev Cert.KernelRefIdeal.nD → PrngReg), Pre_KernelIdeal m →
    (∀ c : Dev Cert.KernelIdeal.nD,
      m' ((c.tc : Thread Cert.KernelRefIdeal.nD Cert.KernelRefIdeal.τ).loc Cert.KernelRefIdeal.main_arg0) = m ((c.tc : Thread Cert.KernelIdeal.nD Cert.KernelIdeal.τ).loc Cert.KernelIdeal.main_arg0)
      ∧ m' ((c.tc : Thread Cert.KernelRefIdeal.nD Cert.KernelRefIdeal.τ).loc Cert.KernelRefIdeal.main_arg1) = m ((c.tc : Thread Cert.KernelIdeal.nD Cert.KernelIdeal.τ).loc Cert.KernelIdeal.main_arg1)
      ∧ m' ((c.tc : Thread Cert.KernelRefIdeal.nD Cert.KernelRefIdeal.τ).loc Cert.KernelRefIdeal.main_arg2) = m ((c.tc : Thread Cert.KernelIdeal.nD Cert.KernelIdeal.τ).loc Cert.KernelIdeal.main_arg2)
      ∧ m' ((c.tc : Thread Cert.KernelRefIdeal.nD Cert.KernelRefIdeal.τ).loc Cert.KernelRefIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.KernelRefIdeal.defs (F := Ideal)) (onTc (τ := Cert.KernelRefIdeal.τ) (Cert.KernelRefIdeal.main (F := Ideal))) ⟨m', fun _ => 0, g'⟩ (fun r => ∀ c : Dev Cert.KernelRefIdeal.nD,
          r.2.mem ((c.tc : Thread Cert.KernelRefIdeal.nD Cert.KernelRefIdeal.τ).loc Cert.KernelRefIdeal.main_v55) = v0 c
          ∧ r.2.mem ((c.tc : Thread Cert.KernelRefIdeal.nD Cert.KernelRefIdeal.τ).loc Cert.KernelRefIdeal.main_arg0) = m' ((c.tc : Thread Cert.KernelRefIdeal.nD Cert.KernelRefIdeal.τ).loc Cert.KernelRefIdeal.main_arg0)
          ∧ r.2.mem ((c.tc : Thread Cert.KernelRefIdeal.nD Cert.KernelRefIdeal.τ).loc Cert.KernelRefIdeal.main_arg1) = m' ((c.tc : Thread Cert.KernelRefIdeal.nD Cert.KernelRefIdeal.τ).loc Cert.KernelRefIdeal.main_arg1)
          ∧ r.2.mem ((c.tc : Thread Cert.KernelRefIdeal.nD Cert.KernelRefIdeal.τ).loc Cert.KernelRefIdeal.main_arg2) = m' ((c.tc : Thread Cert.KernelRefIdeal.nD Cert.KernelRefIdeal.τ).loc Cert.KernelRefIdeal.main_arg2)
          ∧ r.2.mem ((c.tc : Thread Cert.KernelRefIdeal.nD Cert.KernelRefIdeal.τ).loc Cert.KernelRefIdeal.main_arg3) = m' ((c.tc : Thread Cert.KernelRefIdeal.nD Cert.KernelRefIdeal.τ).loc Cert.KernelRefIdeal.main_arg3))

def preserves_Hg_HgIdeal : Prop :=
  True

def algebraic_HgIdeal_HgRefIdeal [hHgIdeal : Cert.HgIdeal.Facts] [hHgRefIdeal : Cert.HgRefIdeal.Facts] : Prop :=
  ∀ (m : (ℓ : Loc Cert.HgIdeal.nD Cert.HgIdeal.τ Cert.HgIdeal.sig) → Buf (Elt Ideal) ℓ) (g : Dev Cert.HgIdeal.nD → PrngReg)
    (m' : (ℓ : Loc Cert.HgRefIdeal.nD Cert.HgRefIdeal.τ Cert.HgRefIdeal.sig) → Buf (Elt Ideal) ℓ) (g' : Dev Cert.HgRefIdeal.nD → PrngReg), Pre_HgIdeal m →
    (∀ c : Dev Cert.HgIdeal.nD,
      m' ((c.tc : Thread Cert.HgRefIdeal.nD Cert.HgRefIdeal.τ).loc Cert.HgRefIdeal.main_arg0) = m ((c.tc : Thread Cert.HgIdeal.nD Cert.HgIdeal.τ).loc Cert.HgIdeal.main_arg0)
      ∧ m' ((c.tc : Thread Cert.HgRefIdeal.nD Cert.HgRefIdeal.τ).loc Cert.HgRefIdeal.main_arg1) = m ((c.tc : Thread Cert.HgIdeal.nD Cert.HgIdeal.τ).loc Cert.HgIdeal.main_arg1)) →
    ∃ (v0 : (c : Dev Cert.HgIdeal.nD) → Buf (Elt Ideal) ((c.tc : Thread Cert.HgIdeal.nD Cert.HgIdeal.τ).loc Cert.HgIdeal.main_v2)),
      θ_run (Cert.HgIdeal.defs (F := Ideal)) (onTc (τ := Cert.HgIdeal.τ) (Cert.HgIdeal.main (F := Ideal))) ⟨m, fun _ => 0, g⟩ (fun r => ∀ c : Dev Cert.HgIdeal.nD,
          r.2.mem ((c.tc : Thread Cert.HgIdeal.nD Cert.HgIdeal.τ).loc Cert.HgIdeal.main_v2) = v0 c
          ∧ r.2.mem ((c.tc : Thread Cert.HgIdeal.nD Cert.HgIdeal.τ).loc Cert.HgIdeal.main_arg0) = m ((c.tc : Thread Cert.HgIdeal.nD Cert.HgIdeal.τ).loc Cert.HgIdeal.main_arg0)
          ∧ r.2.mem ((c.tc : Thread Cert.HgIdeal.nD Cert.HgIdeal.τ).loc Cert.HgIdeal.main_arg1) = m ((c.tc : Thread Cert.HgIdeal.nD Cert.HgIdeal.τ).loc Cert.HgIdeal.main_arg1))
      ∧ θ_run (Cert.HgRefIdeal.defs (F := Ideal)) (onTc (τ := Cert.HgRefIdeal.τ) (Cert.HgRefIdeal.main (F := Ideal))) ⟨m', fun _ => 0, g'⟩ (fun r => ∀ c : Dev Cert.HgRefIdeal.nD,
          r.2.mem ((c.tc : Thread Cert.HgRefIdeal.nD Cert.HgRefIdeal.τ).loc Cert.HgRefIdeal.main_v3) = v0 c
          ∧ r.2.mem ((c.tc : Thread Cert.HgRefIdeal.nD Cert.HgRefIdeal.τ).loc Cert.HgRefIdeal.main_arg0) = m' ((c.tc : Thread Cert.HgRefIdeal.nD Cert.HgRefIdeal.τ).loc Cert.HgRefIdeal.main_arg0)
          ∧ r.2.mem ((c.tc : Thread Cert.HgRefIdeal.nD Cert.HgRefIdeal.τ).loc Cert.HgRefIdeal.main_arg1) = m' ((c.tc : Thread Cert.HgRefIdeal.nD Cert.HgRefIdeal.τ).loc Cert.HgRefIdeal.main_arg1))

def preserves_Qp_QpIdeal : Prop :=
  True

def algebraic_QpIdeal_QpRefIdeal [hQpIdeal : Cert.QpIdeal.Facts] [hQpRefIdeal : Cert.QpRefIdeal.Facts] : Prop :=
  ∀ (m : (ℓ : Loc Cert.QpIdeal.nD Cert.QpIdeal.τ Cert.QpIdeal.sig) → Buf (Elt Ideal) ℓ) (g : Dev Cert.QpIdeal.nD → PrngReg)
    (m' : (ℓ : Loc Cert.QpRefIdeal.nD Cert.QpRefIdeal.τ Cert.QpRefIdeal.sig) → Buf (Elt Ideal) ℓ) (g' : Dev Cert.QpRefIdeal.nD → PrngReg), Pre_QpIdeal m →
    (∀ c : Dev Cert.QpIdeal.nD,
      m' ((c.tc : Thread Cert.QpRefIdeal.nD Cert.QpRefIdeal.τ).loc Cert.QpRefIdeal.main_arg0) = m ((c.tc : Thread Cert.QpIdeal.nD Cert.QpIdeal.τ).loc Cert.QpIdeal.main_arg0)
      ∧ m' ((c.tc : Thread Cert.QpRefIdeal.nD Cert.QpRefIdeal.τ).loc Cert.QpRefIdeal.main_arg1) = m ((c.tc : Thread Cert.QpIdeal.nD Cert.QpIdeal.τ).loc Cert.QpIdeal.main_arg1)) →
    ∃ (v0 : (c : Dev Cert.QpIdeal.nD) → Buf (Elt Ideal) ((c.tc : Thread Cert.QpIdeal.nD Cert.QpIdeal.τ).loc Cert.QpIdeal.main_v2)),
      θ_run (Cert.QpIdeal.defs (F := Ideal)) (onTc (τ := Cert.QpIdeal.τ) (Cert.QpIdeal.main (F := Ideal))) ⟨m, fun _ => 0, g⟩ (fun r => ∀ c : Dev Cert.QpIdeal.nD,
          r.2.mem ((c.tc : Thread Cert.QpIdeal.nD Cert.QpIdeal.τ).loc Cert.QpIdeal.main_v2) = v0 c
          ∧ r.2.mem ((c.tc : Thread Cert.QpIdeal.nD Cert.QpIdeal.τ).loc Cert.QpIdeal.main_arg0) = m ((c.tc : Thread Cert.QpIdeal.nD Cert.QpIdeal.τ).loc Cert.QpIdeal.main_arg0)
          ∧ r.2.mem ((c.tc : Thread Cert.QpIdeal.nD Cert.QpIdeal.τ).loc Cert.QpIdeal.main_arg1) = m ((c.tc : Thread Cert.QpIdeal.nD Cert.QpIdeal.τ).loc Cert.QpIdeal.main_arg1))
      ∧ θ_run (Cert.QpRefIdeal.defs (F := Ideal)) (onTc (τ := Cert.QpRefIdeal.τ) (Cert.QpRefIdeal.main (F := Ideal))) ⟨m', fun _ => 0, g'⟩ (fun r => ∀ c : Dev Cert.QpRefIdeal.nD,
          r.2.mem ((c.tc : Thread Cert.QpRefIdeal.nD Cert.QpRefIdeal.τ).loc Cert.QpRefIdeal.main_v3) = v0 c
          ∧ r.2.mem ((c.tc : Thread Cert.QpRefIdeal.nD Cert.QpRefIdeal.τ).loc Cert.QpRefIdeal.main_arg0) = m' ((c.tc : Thread Cert.QpRefIdeal.nD Cert.QpRefIdeal.τ).loc Cert.QpRefIdeal.main_arg0)
          ∧ r.2.mem ((c.tc : Thread Cert.QpRefIdeal.nD Cert.QpRefIdeal.τ).loc Cert.QpRefIdeal.main_arg1) = m' ((c.tc : Thread Cert.QpRefIdeal.nD Cert.QpRefIdeal.τ).loc Cert.QpRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Qi_QiIdeal : Prop :=
  True

def algebraic_QiIdeal_QiRefIdeal [hQiIdeal : Cert.QiIdeal.Facts] [hQiRefIdeal : Cert.QiRefIdeal.Facts] : Prop :=
  ∀ (m : (ℓ : Loc Cert.QiIdeal.nD Cert.QiIdeal.τ Cert.QiIdeal.sig) → Buf (Elt Ideal) ℓ) (g : Dev Cert.QiIdeal.nD → PrngReg)
    (m' : (ℓ : Loc Cert.QiRefIdeal.nD Cert.QiRefIdeal.τ Cert.QiRefIdeal.sig) → Buf (Elt Ideal) ℓ) (g' : Dev Cert.QiRefIdeal.nD → PrngReg), Pre_QiIdeal m →
    (∀ c : Dev Cert.QiIdeal.nD,
      m' ((c.tc : Thread Cert.QiRefIdeal.nD Cert.QiRefIdeal.τ).loc Cert.QiRefIdeal.main_arg0) = m ((c.tc : Thread Cert.QiIdeal.nD Cert.QiIdeal.τ).loc Cert.QiIdeal.main_arg0)
      ∧ m' ((c.tc : Thread Cert.QiRefIdeal.nD Cert.QiRefIdeal.τ).loc Cert.QiRefIdeal.main_arg1) = m ((c.tc : Thread Cert.QiIdeal.nD Cert.QiIdeal.τ).loc Cert.QiIdeal.main_arg1)) →
    ∃ (v0 : (c : Dev Cert.QiIdeal.nD) → Buf (Elt Ideal) ((c.tc : Thread Cert.QiIdeal.nD Cert.QiIdeal.τ).loc Cert.QiIdeal.main_v2)),
      θ_run (Cert.QiIdeal.defs (F := Ideal)) (onTc (τ := Cert.QiIdeal.τ) (Cert.QiIdeal.main (F := Ideal))) ⟨m, fun _ => 0, g⟩ (fun r => ∀ c : Dev Cert.QiIdeal.nD,
          r.2.mem ((c.tc : Thread Cert.QiIdeal.nD Cert.QiIdeal.τ).loc Cert.QiIdeal.main_v2) = v0 c
          ∧ r.2.mem ((c.tc : Thread Cert.QiIdeal.nD Cert.QiIdeal.τ).loc Cert.QiIdeal.main_arg0) = m ((c.tc : Thread Cert.QiIdeal.nD Cert.QiIdeal.τ).loc Cert.QiIdeal.main_arg0)
          ∧ r.2.mem ((c.tc : Thread Cert.QiIdeal.nD Cert.QiIdeal.τ).loc Cert.QiIdeal.main_arg1) = m ((c.tc : Thread Cert.QiIdeal.nD Cert.QiIdeal.τ).loc Cert.QiIdeal.main_arg1))
      ∧ θ_run (Cert.QiRefIdeal.defs (F := Ideal)) (onTc (τ := Cert.QiRefIdeal.τ) (Cert.QiRefIdeal.main (F := Ideal))) ⟨m', fun _ => 0, g'⟩ (fun r => ∀ c : Dev Cert.QiRefIdeal.nD,
          r.2.mem ((c.tc : Thread Cert.QiRefIdeal.nD Cert.QiRefIdeal.τ).loc Cert.QiRefIdeal.main_v5) = v0 c
          ∧ r.2.mem ((c.tc : Thread Cert.QiRefIdeal.nD Cert.QiRefIdeal.τ).loc Cert.QiRefIdeal.main_arg0) = m' ((c.tc : Thread Cert.QiRefIdeal.nD Cert.QiRefIdeal.τ).loc Cert.QiRefIdeal.main_arg0)
          ∧ r.2.mem ((c.tc : Thread Cert.QiRefIdeal.nD Cert.QiRefIdeal.τ).loc Cert.QiRefIdeal.main_arg1) = m' ((c.tc : Thread Cert.QiRefIdeal.nD Cert.QiRefIdeal.τ).loc Cert.QiRefIdeal.main_arg1))

def preserves_Sm_SmIdeal : Prop :=
  True

def algebraic_SmIdeal_SmRefIdeal [hSmIdeal : Cert.SmIdeal.Facts] [hSmRefIdeal : Cert.SmRefIdeal.Facts] : Prop :=
  ∀ (m : (ℓ : Loc Cert.SmIdeal.nD Cert.SmIdeal.τ Cert.SmIdeal.sig) → Buf (Elt Ideal) ℓ) (g : Dev Cert.SmIdeal.nD → PrngReg)
    (m' : (ℓ : Loc Cert.SmRefIdeal.nD Cert.SmRefIdeal.τ Cert.SmRefIdeal.sig) → Buf (Elt Ideal) ℓ) (g' : Dev Cert.SmRefIdeal.nD → PrngReg), Pre_SmIdeal m →
    (∀ c : Dev Cert.SmIdeal.nD,
      m' ((c.tc : Thread Cert.SmRefIdeal.nD Cert.SmRefIdeal.τ).loc Cert.SmRefIdeal.main_arg0) = m ((c.tc : Thread Cert.SmIdeal.nD Cert.SmIdeal.τ).loc Cert.SmIdeal.main_arg0)
      ∧ m' ((c.tc : Thread Cert.SmRefIdeal.nD Cert.SmRefIdeal.τ).loc Cert.SmRefIdeal.main_arg1) = m ((c.tc : Thread Cert.SmIdeal.nD Cert.SmIdeal.τ).loc Cert.SmIdeal.main_arg1)) →
    ∃ (v0 : (c : Dev Cert.SmIdeal.nD) → Buf (Elt Ideal) ((c.tc : Thread Cert.SmIdeal.nD Cert.SmIdeal.τ).loc Cert.SmIdeal.main_v6)),
      θ_run (Cert.SmIdeal.defs (F := Ideal)) (onTc (τ := Cert.SmIdeal.τ) (Cert.SmIdeal.main (F := Ideal))) ⟨m, fun _ => 0, g⟩ (fun r => ∀ c : Dev Cert.SmIdeal.nD,
          r.2.mem ((c.tc : Thread Cert.SmIdeal.nD Cert.SmIdeal.τ).loc Cert.SmIdeal.main_v6) = v0 c
          ∧ r.2.mem ((c.tc : Thread Cert.SmIdeal.nD Cert.SmIdeal.τ).loc Cert.SmIdeal.main_arg0) = m ((c.tc : Thread Cert.SmIdeal.nD Cert.SmIdeal.τ).loc Cert.SmIdeal.main_arg0)
          ∧ r.2.mem ((c.tc : Thread Cert.SmIdeal.nD Cert.SmIdeal.τ).loc Cert.SmIdeal.main_arg1) = m ((c.tc : Thread Cert.SmIdeal.nD Cert.SmIdeal.τ).loc Cert.SmIdeal.main_arg1))
      ∧ θ_run (Cert.SmRefIdeal.defs (F := Ideal)) (onTc (τ := Cert.SmRefIdeal.τ) (Cert.SmRefIdeal.main (F := Ideal))) ⟨m', fun _ => 0, g'⟩ (fun r => ∀ c : Dev Cert.SmRefIdeal.nD,
          r.2.mem ((c.tc : Thread Cert.SmRefIdeal.nD Cert.SmRefIdeal.τ).loc Cert.SmRefIdeal.main_v4) = v0 c
          ∧ r.2.mem ((c.tc : Thread Cert.SmRefIdeal.nD Cert.SmRefIdeal.τ).loc Cert.SmRefIdeal.main_arg0) = m' ((c.tc : Thread Cert.SmRefIdeal.nD Cert.SmRefIdeal.τ).loc Cert.SmRefIdeal.main_arg0)
          ∧ r.2.mem ((c.tc : Thread Cert.SmRefIdeal.nD Cert.SmRefIdeal.τ).loc Cert.SmRefIdeal.main_arg1) = m' ((c.tc : Thread Cert.SmRefIdeal.nD Cert.SmRefIdeal.τ).loc Cert.SmRefIdeal.main_arg1))

def preserves_Ga_GaIdeal : Prop :=
  True

def algebraic_GaIdeal_GaRefIdeal [hGaIdeal : Cert.GaIdeal.Facts] [hGaRefIdeal : Cert.GaRefIdeal.Facts] : Prop :=
  ∀ (m : (ℓ : Loc Cert.GaIdeal.nD Cert.GaIdeal.τ Cert.GaIdeal.sig) → Buf (Elt Ideal) ℓ) (g : Dev Cert.GaIdeal.nD → PrngReg)
    (m' : (ℓ : Loc Cert.GaRefIdeal.nD Cert.GaRefIdeal.τ Cert.GaRefIdeal.sig) → Buf (Elt Ideal) ℓ) (g' : Dev Cert.GaRefIdeal.nD → PrngReg), Pre_GaIdeal m →
    (∀ c : Dev Cert.GaIdeal.nD,
      m' ((c.tc : Thread Cert.GaRefIdeal.nD Cert.GaRefIdeal.τ).loc Cert.GaRefIdeal.main_arg0) = m ((c.tc : Thread Cert.GaIdeal.nD Cert.GaIdeal.τ).loc Cert.GaIdeal.main_arg0)
      ∧ m' ((c.tc : Thread Cert.GaRefIdeal.nD Cert.GaRefIdeal.τ).loc Cert.GaRefIdeal.main_arg1) = m ((c.tc : Thread Cert.GaIdeal.nD Cert.GaIdeal.τ).loc Cert.GaIdeal.main_arg1)) →
    ∃ (v0 : (c : Dev Cert.GaIdeal.nD) → Buf (Elt Ideal) ((c.tc : Thread Cert.GaIdeal.nD Cert.GaIdeal.τ).loc Cert.GaIdeal.main_v3)),
      θ_run (Cert.GaIdeal.defs (F := Ideal)) (onTc (τ := Cert.GaIdeal.τ) (Cert.GaIdeal.main (F := Ideal))) ⟨m, fun _ => 0, g⟩ (fun r => ∀ c : Dev Cert.GaIdeal.nD,
          r.2.mem ((c.tc : Thread Cert.GaIdeal.nD Cert.GaIdeal.τ).loc Cert.GaIdeal.main_v3) = v0 c
          ∧ r.2.mem ((c.tc : Thread Cert.GaIdeal.nD Cert.GaIdeal.τ).loc Cert.GaIdeal.main_arg0) = m ((c.tc : Thread Cert.GaIdeal.nD Cert.GaIdeal.τ).loc Cert.GaIdeal.main_arg0)
          ∧ r.2.mem ((c.tc : Thread Cert.GaIdeal.nD Cert.GaIdeal.τ).loc Cert.GaIdeal.main_arg1) = m ((c.tc : Thread Cert.GaIdeal.nD Cert.GaIdeal.τ).loc Cert.GaIdeal.main_arg1))
      ∧ θ_run (Cert.GaRefIdeal.defs (F := Ideal)) (onTc (τ := Cert.GaRefIdeal.τ) (Cert.GaRefIdeal.main (F := Ideal))) ⟨m', fun _ => 0, g'⟩ (fun r => ∀ c : Dev Cert.GaRefIdeal.nD,
          r.2.mem ((c.tc : Thread Cert.GaRefIdeal.nD Cert.GaRefIdeal.τ).loc Cert.GaRefIdeal.main_v3) = v0 c
          ∧ r.2.mem ((c.tc : Thread Cert.GaRefIdeal.nD Cert.GaRefIdeal.τ).loc Cert.GaRefIdeal.main_arg0) = m' ((c.tc : Thread Cert.GaRefIdeal.nD Cert.GaRefIdeal.τ).loc Cert.GaRefIdeal.main_arg0)
          ∧ r.2.mem ((c.tc : Thread Cert.GaRefIdeal.nD Cert.GaRefIdeal.τ).loc Cert.GaRefIdeal.main_arg1) = m' ((c.tc : Thread Cert.GaRefIdeal.nD Cert.GaRefIdeal.τ).loc Cert.GaRefIdeal.main_arg1))

def preserves_Op_OpIdeal : Prop :=
  True

def algebraic_OpIdeal_OpRefIdeal [hOpIdeal : Cert.OpIdeal.Facts] [hOpRefIdeal : Cert.OpRefIdeal.Facts] : Prop :=
  ∀ (m : (ℓ : Loc Cert.OpIdeal.nD Cert.OpIdeal.τ Cert.OpIdeal.sig) → Buf (Elt Ideal) ℓ) (g : Dev Cert.OpIdeal.nD → PrngReg)
    (m' : (ℓ : Loc Cert.OpRefIdeal.nD Cert.OpRefIdeal.τ Cert.OpRefIdeal.sig) → Buf (Elt Ideal) ℓ) (g' : Dev Cert.OpRefIdeal.nD → PrngReg), Pre_OpIdeal m →
    (∀ c : Dev Cert.OpIdeal.nD,
      m' ((c.tc : Thread Cert.OpRefIdeal.nD Cert.OpRefIdeal.τ).loc Cert.OpRefIdeal.main_arg0) = m ((c.tc : Thread Cert.OpIdeal.nD Cert.OpIdeal.τ).loc Cert.OpIdeal.main_arg0)
      ∧ m' ((c.tc : Thread Cert.OpRefIdeal.nD Cert.OpRefIdeal.τ).loc Cert.OpRefIdeal.main_arg1) = m ((c.tc : Thread Cert.OpIdeal.nD Cert.OpIdeal.τ).loc Cert.OpIdeal.main_arg1)
      ∧ m' ((c.tc : Thread Cert.OpRefIdeal.nD Cert.OpRefIdeal.τ).loc Cert.OpRefIdeal.main_arg2) = m ((c.tc : Thread Cert.OpIdeal.nD Cert.OpIdeal.τ).loc Cert.OpIdeal.main_arg2)) →
    ∃ (v0 : (c : Dev Cert.OpIdeal.nD) → Buf (Elt Ideal) ((c.tc : Thread Cert.OpIdeal.nD Cert.OpIdeal.τ).loc Cert.OpIdeal.main_v2)),
      θ_run (Cert.OpIdeal.defs (F := Ideal)) (onTc (τ := Cert.OpIdeal.τ) (Cert.OpIdeal.main (F := Ideal))) ⟨m, fun _ => 0, g⟩ (fun r => ∀ c : Dev Cert.OpIdeal.nD,
          r.2.mem ((c.tc : Thread Cert.OpIdeal.nD Cert.OpIdeal.τ).loc Cert.OpIdeal.main_v2) = v0 c
          ∧ r.2.mem ((c.tc : Thread Cert.OpIdeal.nD Cert.OpIdeal.τ).loc Cert.OpIdeal.main_arg0) = m ((c.tc : Thread Cert.OpIdeal.nD Cert.OpIdeal.τ).loc Cert.OpIdeal.main_arg0)
          ∧ r.2.mem ((c.tc : Thread Cert.OpIdeal.nD Cert.OpIdeal.τ).loc Cert.OpIdeal.main_arg1) = m ((c.tc : Thread Cert.OpIdeal.nD Cert.OpIdeal.τ).loc Cert.OpIdeal.main_arg1)
          ∧ r.2.mem ((c.tc : Thread Cert.OpIdeal.nD Cert.OpIdeal.τ).loc Cert.OpIdeal.main_arg2) = m ((c.tc : Thread Cert.OpIdeal.nD Cert.OpIdeal.τ).loc Cert.OpIdeal.main_arg2))
      ∧ θ_run (Cert.OpRefIdeal.defs (F := Ideal)) (onTc (τ := Cert.OpRefIdeal.τ) (Cert.OpRefIdeal.main (F := Ideal))) ⟨m', fun _ => 0, g'⟩ (fun r => ∀ c : Dev Cert.OpRefIdeal.nD,
          r.2.mem ((c.tc : Thread Cert.OpRefIdeal.nD Cert.OpRefIdeal.τ).loc Cert.OpRefIdeal.main_v3) = v0 c
          ∧ r.2.mem ((c.tc : Thread Cert.OpRefIdeal.nD Cert.OpRefIdeal.τ).loc Cert.OpRefIdeal.main_arg0) = m' ((c.tc : Thread Cert.OpRefIdeal.nD Cert.OpRefIdeal.τ).loc Cert.OpRefIdeal.main_arg0)
          ∧ r.2.mem ((c.tc : Thread Cert.OpRefIdeal.nD Cert.OpRefIdeal.τ).loc Cert.OpRefIdeal.main_arg1) = m' ((c.tc : Thread Cert.OpRefIdeal.nD Cert.OpRefIdeal.τ).loc Cert.OpRefIdeal.main_arg1)
          ∧ r.2.mem ((c.tc : Thread Cert.OpRefIdeal.nD Cert.OpRefIdeal.τ).loc Cert.OpRefIdeal.main_arg2) = m' ((c.tc : Thread Cert.OpRefIdeal.nD Cert.OpRefIdeal.τ).loc Cert.OpRefIdeal.main_arg2))

def preserves_Nm_NmIdeal : Prop :=
  True

def algebraic_NmIdeal_NmRefIdeal [hNmIdeal : Cert.NmIdeal.Facts] [hNmRefIdeal : Cert.NmRefIdeal.Facts] : Prop :=
  ∀ (m : (ℓ : Loc Cert.NmIdeal.nD Cert.NmIdeal.τ Cert.NmIdeal.sig) → Buf (Elt Ideal) ℓ) (g : Dev Cert.NmIdeal.nD → PrngReg)
    (m' : (ℓ : Loc Cert.NmRefIdeal.nD Cert.NmRefIdeal.τ Cert.NmRefIdeal.sig) → Buf (Elt Ideal) ℓ) (g' : Dev Cert.NmRefIdeal.nD → PrngReg), Pre_NmIdeal m →
    (∀ c : Dev Cert.NmIdeal.nD,
      m' ((c.tc : Thread Cert.NmRefIdeal.nD Cert.NmRefIdeal.τ).loc Cert.NmRefIdeal.main_arg0) = m ((c.tc : Thread Cert.NmIdeal.nD Cert.NmIdeal.τ).loc Cert.NmIdeal.main_arg0)
      ∧ m' ((c.tc : Thread Cert.NmRefIdeal.nD Cert.NmRefIdeal.τ).loc Cert.NmRefIdeal.main_arg1) = m ((c.tc : Thread Cert.NmIdeal.nD Cert.NmIdeal.τ).loc Cert.NmIdeal.main_arg1)
      ∧ m' ((c.tc : Thread Cert.NmRefIdeal.nD Cert.NmRefIdeal.τ).loc Cert.NmRefIdeal.main_arg2) = m ((c.tc : Thread Cert.NmIdeal.nD Cert.NmIdeal.τ).loc Cert.NmIdeal.main_arg2)) →
    ∃ (v0 : (c : Dev Cert.NmIdeal.nD) → Buf (Elt Ideal) ((c.tc : Thread Cert.NmIdeal.nD Cert.NmIdeal.τ).loc Cert.NmIdeal.main_v5)),
      θ_run (Cert.NmIdeal.defs (F := Ideal)) (onTc (τ := Cert.NmIdeal.τ) (Cert.NmIdeal.main (F := Ideal))) ⟨m, fun _ => 0, g⟩ (fun r => ∀ c : Dev Cert.NmIdeal.nD,
          r.2.mem ((c.tc : Thread Cert.NmIdeal.nD Cert.NmIdeal.τ).loc Cert.NmIdeal.main_v5) = v0 c
          ∧ r.2.mem ((c.tc : Thread Cert.NmIdeal.nD Cert.NmIdeal.τ).loc Cert.NmIdeal.main_arg0) = m ((c.tc : Thread Cert.NmIdeal.nD Cert.NmIdeal.τ).loc Cert.NmIdeal.main_arg0)
          ∧ r.2.mem ((c.tc : Thread Cert.NmIdeal.nD Cert.NmIdeal.τ).loc Cert.NmIdeal.main_arg1) = m ((c.tc : Thread Cert.NmIdeal.nD Cert.NmIdeal.τ).loc Cert.NmIdeal.main_arg1)
          ∧ r.2.mem ((c.tc : Thread Cert.NmIdeal.nD Cert.NmIdeal.τ).loc Cert.NmIdeal.main_arg2) = m ((c.tc : Thread Cert.NmIdeal.nD Cert.NmIdeal.τ).loc Cert.NmIdeal.main_arg2))
      ∧ θ_run (Cert.NmRefIdeal.defs (F := Ideal)) (onTc (τ := Cert.NmRefIdeal.τ) (Cert.NmRefIdeal.main (F := Ideal))) ⟨m', fun _ => 0, g'⟩ (fun r => ∀ c : Dev Cert.NmRefIdeal.nD,
          r.2.mem ((c.tc : Thread Cert.NmRefIdeal.nD Cert.NmRefIdeal.τ).loc Cert.NmRefIdeal.main_v31) = v0 c
          ∧ r.2.mem ((c.tc : Thread Cert.NmRefIdeal.nD Cert.NmRefIdeal.τ).loc Cert.NmRefIdeal.main_arg0) = m' ((c.tc : Thread Cert.NmRefIdeal.nD Cert.NmRefIdeal.τ).loc Cert.NmRefIdeal.main_arg0)
          ∧ r.2.mem ((c.tc : Thread Cert.NmRefIdeal.nD Cert.NmRefIdeal.τ).loc Cert.NmRefIdeal.main_arg1) = m' ((c.tc : Thread Cert.NmRefIdeal.nD Cert.NmRefIdeal.τ).loc Cert.NmRefIdeal.main_arg1)
          ∧ r.2.mem ((c.tc : Thread Cert.NmRefIdeal.nD Cert.NmRefIdeal.τ).loc Cert.NmRefIdeal.main_arg2) = m' ((c.tc : Thread Cert.NmRefIdeal.nD Cert.NmRefIdeal.τ).loc Cert.NmRefIdeal.main_arg2))

def preserves_Mg_MgIdeal : Prop :=
  True

def algebraic_MgIdeal_MgRefIdeal [hMgIdeal : Cert.MgIdeal.Facts] [hMgRefIdeal : Cert.MgRefIdeal.Facts] : Prop :=
  ∀ (m : (ℓ : Loc Cert.MgIdeal.nD Cert.MgIdeal.τ Cert.MgIdeal.sig) → Buf (Elt Ideal) ℓ) (g : Dev Cert.MgIdeal.nD → PrngReg)
    (m' : (ℓ : Loc Cert.MgRefIdeal.nD Cert.MgRefIdeal.τ Cert.MgRefIdeal.sig) → Buf (Elt Ideal) ℓ) (g' : Dev Cert.MgRefIdeal.nD → PrngReg), Pre_MgIdeal m →
    (∀ c : Dev Cert.MgIdeal.nD,
      m' ((c.tc : Thread Cert.MgRefIdeal.nD Cert.MgRefIdeal.τ).loc Cert.MgRefIdeal.main_arg0) = m ((c.tc : Thread Cert.MgIdeal.nD Cert.MgIdeal.τ).loc Cert.MgIdeal.main_arg0)
      ∧ m' ((c.tc : Thread Cert.MgRefIdeal.nD Cert.MgRefIdeal.τ).loc Cert.MgRefIdeal.main_arg1) = m ((c.tc : Thread Cert.MgIdeal.nD Cert.MgIdeal.τ).loc Cert.MgIdeal.main_arg1)
      ∧ m' ((c.tc : Thread Cert.MgRefIdeal.nD Cert.MgRefIdeal.τ).loc Cert.MgRefIdeal.main_arg2) = m ((c.tc : Thread Cert.MgIdeal.nD Cert.MgIdeal.τ).loc Cert.MgIdeal.main_arg2)
      ∧ m' ((c.tc : Thread Cert.MgRefIdeal.nD Cert.MgRefIdeal.τ).loc Cert.MgRefIdeal.main_arg3) = m ((c.tc : Thread Cert.MgIdeal.nD Cert.MgIdeal.τ).loc Cert.MgIdeal.main_arg3)
      ∧ m' ((c.tc : Thread Cert.MgRefIdeal.nD Cert.MgRefIdeal.τ).loc Cert.MgRefIdeal.main_arg4) = m ((c.tc : Thread Cert.MgIdeal.nD Cert.MgIdeal.τ).loc Cert.MgIdeal.main_arg4)) →
    ∃ (v0 : (c : Dev Cert.MgIdeal.nD) → Buf (Elt Ideal) ((c.tc : Thread Cert.MgIdeal.nD Cert.MgIdeal.τ).loc Cert.MgIdeal.main_v0)),
      θ_run (Cert.MgIdeal.defs (F := Ideal)) (onTc (τ := Cert.MgIdeal.τ) (Cert.MgIdeal.main (F := Ideal))) ⟨m, fun _ => 0, g⟩ (fun r => ∀ c : Dev Cert.MgIdeal.nD,
          r.2.mem ((c.tc : Thread Cert.MgIdeal.nD Cert.MgIdeal.τ).loc Cert.MgIdeal.main_v0) = v0 c
          ∧ r.2.mem ((c.tc : Thread Cert.MgIdeal.nD Cert.MgIdeal.τ).loc Cert.MgIdeal.main_arg0) = m ((c.tc : Thread Cert.MgIdeal.nD Cert.MgIdeal.τ).loc Cert.MgIdeal.main_arg0)
          ∧ r.2.mem ((c.tc : Thread Cert.MgIdeal.nD Cert.MgIdeal.τ).loc Cert.MgIdeal.main_arg1) = m ((c.tc : Thread Cert.MgIdeal.nD Cert.MgIdeal.τ).loc Cert.MgIdeal.main_arg1)
          ∧ r.2.mem ((c.tc : Thread Cert.MgIdeal.nD Cert.MgIdeal.τ).loc Cert.MgIdeal.main_arg2) = m ((c.tc : Thread Cert.MgIdeal.nD Cert.MgIdeal.τ).loc Cert.MgIdeal.main_arg2)
          ∧ r.2.mem ((c.tc : Thread Cert.MgIdeal.nD Cert.MgIdeal.τ).loc Cert.MgIdeal.main_arg3) = m ((c.tc : Thread Cert.MgIdeal.nD Cert.MgIdeal.τ).loc Cert.MgIdeal.main_arg3)
          ∧ r.2.mem ((c.tc : Thread Cert.MgIdeal.nD Cert.MgIdeal.τ).loc Cert.MgIdeal.main_arg4) = m ((c.tc : Thread Cert.MgIdeal.nD Cert.MgIdeal.τ).loc Cert.MgIdeal.main_arg4))
      ∧ θ_run (Cert.MgRefIdeal.defs (F := Ideal)) (onTc (τ := Cert.MgRefIdeal.τ) (Cert.MgRefIdeal.main (F := Ideal))) ⟨m', fun _ => 0, g'⟩ (fun r => ∀ c : Dev Cert.MgRefIdeal.nD,
          r.2.mem ((c.tc : Thread Cert.MgRefIdeal.nD Cert.MgRefIdeal.τ).loc Cert.MgRefIdeal.main_v37) = v0 c
          ∧ r.2.mem ((c.tc : Thread Cert.MgRefIdeal.nD Cert.MgRefIdeal.τ).loc Cert.MgRefIdeal.main_arg0) = m' ((c.tc : Thread Cert.MgRefIdeal.nD Cert.MgRefIdeal.τ).loc Cert.MgRefIdeal.main_arg0)
          ∧ r.2.mem ((c.tc : Thread Cert.MgRefIdeal.nD Cert.MgRefIdeal.τ).loc Cert.MgRefIdeal.main_arg1) = m' ((c.tc : Thread Cert.MgRefIdeal.nD Cert.MgRefIdeal.τ).loc Cert.MgRefIdeal.main_arg1)
          ∧ r.2.mem ((c.tc : Thread Cert.MgRefIdeal.nD Cert.MgRefIdeal.τ).loc Cert.MgRefIdeal.main_arg2) = m' ((c.tc : Thread Cert.MgRefIdeal.nD Cert.MgRefIdeal.τ).loc Cert.MgRefIdeal.main_arg2)
          ∧ r.2.mem ((c.tc : Thread Cert.MgRefIdeal.nD Cert.MgRefIdeal.τ).loc Cert.MgRefIdeal.main_arg3) = m' ((c.tc : Thread Cert.MgRefIdeal.nD Cert.MgRefIdeal.τ).loc Cert.MgRefIdeal.main_arg3)
          ∧ r.2.mem ((c.tc : Thread Cert.MgRefIdeal.nD Cert.MgRefIdeal.τ).loc Cert.MgRefIdeal.main_arg4) = m' ((c.tc : Thread Cert.MgRefIdeal.nD Cert.MgRefIdeal.τ).loc Cert.MgRefIdeal.main_arg4))

def Claim : Prop :=
  ∃ (hKernel : Cert.Kernel.Facts) (hKernelIdeal : Cert.KernelIdeal.Facts) (hKernelRefIdeal : Cert.KernelRefIdeal.Facts) (hHg : Cert.Hg.Facts) (hHgIdeal : Cert.HgIdeal.Facts) (hHgRefIdeal : Cert.HgRefIdeal.Facts) (hQp : Cert.Qp.Facts) (hQpIdeal : Cert.QpIdeal.Facts) (hQpRefIdeal : Cert.QpRefIdeal.Facts) (hKv : Cert.Kv.Facts) (hKvIdeal : Cert.KvIdeal.Facts) (hKvRefIdeal : Cert.KvRefIdeal.Facts) (hQi : Cert.Qi.Facts) (hQiIdeal : Cert.QiIdeal.Facts) (hQiRefIdeal : Cert.QiRefIdeal.Facts) (hSm : Cert.Sm.Facts) (hSmIdeal : Cert.SmIdeal.Facts) (hSmRefIdeal : Cert.SmRefIdeal.Facts) (hGa : Cert.Ga.Facts) (hGaIdeal : Cert.GaIdeal.Facts) (hGaRefIdeal : Cert.GaRefIdeal.Facts) (hOp : Cert.Op.Facts) (hOpIdeal : Cert.OpIdeal.Facts) (hOpRefIdeal : Cert.OpRefIdeal.Facts) (hNm : Cert.Nm.Facts) (hNmIdeal : Cert.NmIdeal.Facts) (hNmRefIdeal : Cert.NmRefIdeal.Facts) (hMg : Cert.Mg.Facts) (hMgIdeal : Cert.MgIdeal.Facts) (hMgRefIdeal : Cert.MgRefIdeal.Facts),
    quiescent_Kernel (hKernel := hKernel)
    ∧ quiescent_KernelIdeal (hKernelIdeal := hKernelIdeal)
    ∧ quiescent_KernelRefIdeal (hKernelRefIdeal := hKernelRefIdeal)
    ∧ quiescent_Hg (hHg := hHg)
    ∧ quiescent_HgIdeal (hHgIdeal := hHgIdeal)
    ∧ quiescent_HgRefIdeal (hHgRefIdeal := hHgRefIdeal)
    ∧ quiescent_Qp (hQp := hQp)
    ∧ quiescent_QpIdeal (hQpIdeal := hQpIdeal)
    ∧ quiescent_QpRefIdeal (hQpRefIdeal := hQpRefIdeal)
    ∧ quiescent_Kv (hKv := hKv)
    ∧ quiescent_KvIdeal (hKvIdeal := hKvIdeal)
    ∧ quiescent_KvRefIdeal (hKvRefIdeal := hKvRefIdeal)
    ∧ quiescent_Qi (hQi := hQi)
    ∧ quiescent_QiIdeal (hQiIdeal := hQiIdeal)
    ∧ quiescent_QiRefIdeal (hQiRefIdeal := hQiRefIdeal)
    ∧ quiescent_Sm (hSm := hSm)
    ∧ quiescent_SmIdeal (hSmIdeal := hSmIdeal)
    ∧ quiescent_SmRefIdeal (hSmRefIdeal := hSmRefIdeal)
    ∧ quiescent_Ga (hGa := hGa)
    ∧ quiescent_GaIdeal (hGaIdeal := hGaIdeal)
    ∧ quiescent_GaRefIdeal (hGaRefIdeal := hGaRefIdeal)
    ∧ quiescent_Op (hOp := hOp)
    ∧ quiescent_OpIdeal (hOpIdeal := hOpIdeal)
    ∧ quiescent_OpRefIdeal (hOpRefIdeal := hOpRefIdeal)
    ∧ quiescent_Nm (hNm := hNm)
    ∧ quiescent_NmIdeal (hNmIdeal := hNmIdeal)
    ∧ quiescent_NmRefIdeal (hNmRefIdeal := hNmRefIdeal)
    ∧ quiescent_Mg (hMg := hMg)
    ∧ quiescent_MgIdeal (hMgIdeal := hMgIdeal)
    ∧ quiescent_MgRefIdeal (hMgRefIdeal := hMgRefIdeal)
    ∧ preserves_Kernel_KernelIdeal
    ∧ algebraic_KernelIdeal_KernelRefIdeal (hKernelIdeal := hKernelIdeal) (hKernelRefIdeal := hKernelRefIdeal)
    ∧ preserves_Hg_HgIdeal
    ∧ algebraic_HgIdeal_HgRefIdeal (hHgIdeal := hHgIdeal) (hHgRefIdeal := hHgRefIdeal)
    ∧ preserves_Qp_QpIdeal
    ∧ algebraic_QpIdeal_QpRefIdeal (hQpIdeal := hQpIdeal) (hQpRefIdeal := hQpRefIdeal)
    ∧ preserves_Kv_KvIdeal
    ∧ algebraic_KvIdeal_KvRefIdeal (hKvIdeal := hKvIdeal) (hKvRefIdeal := hKvRefIdeal)
    ∧ preserves_Qi_QiIdeal
    ∧ algebraic_QiIdeal_QiRefIdeal (hQiIdeal := hQiIdeal) (hQiRefIdeal := hQiRefIdeal)
    ∧ preserves_Sm_SmIdeal
    ∧ algebraic_SmIdeal_SmRefIdeal (hSmIdeal := hSmIdeal) (hSmRefIdeal := hSmRefIdeal)
    ∧ preserves_Ga_GaIdeal
    ∧ algebraic_GaIdeal_GaRefIdeal (hGaIdeal := hGaIdeal) (hGaRefIdeal := hGaRefIdeal)
    ∧ preserves_Op_OpIdeal
    ∧ algebraic_OpIdeal_OpRefIdeal (hOpIdeal := hOpIdeal) (hOpRefIdeal := hOpRefIdeal)
    ∧ preserves_Nm_NmIdeal
    ∧ algebraic_NmIdeal_NmRefIdeal (hNmIdeal := hNmIdeal) (hNmRefIdeal := hNmRefIdeal)
    ∧ preserves_Mg_MgIdeal
    ∧ algebraic_MgIdeal_MgRefIdeal (hMgIdeal := hMgIdeal) (hMgRefIdeal := hMgRefIdeal)
-- ==== Kernel.lean ====
abbrev S128x16384 : Shape := ⟨2, ![128, 16384]⟩
abbrev S2x4096 : Shape := ⟨2, ![2, 4096]⟩
abbrev S1x4096 : Shape := ⟨2, ![1, 4096]⟩
abbrev S1x32x32x128x128 : Shape := ⟨5, ![1, 32, 32, 128, 128]⟩
abbrev S32x16 : Shape := ⟨2, ![32, 16]⟩
abbrev S64x16 : Shape := ⟨2, ![64, 16]⟩
abbrev S16x16 : Shape := ⟨2, ![16, 16]⟩
abbrev S_ : Shape := ⟨0, ![]⟩
abbrev S4096 : Shape := ⟨1, ![4096]⟩
abbrev S32x4x16384 : Shape := ⟨3, ![32, 4, 16384]⟩
abbrev S32x12x16384 : Shape := ⟨3, ![32, 12, 16384]⟩
abbrev S32x16x16384 : Shape := ⟨3, ![32, 16, 16384]⟩
abbrev S512x16384 : Shape := ⟨2, ![512, 16384]⟩
abbrev S32x32x128x128 : Shape := ⟨4, ![32, 32, 128, 128]⟩
abbrev S512x4096 : Shape := ⟨2, ![512, 4096]⟩
abbrev S16x1024 : Shape := ⟨2, ![16, 1024]⟩
abbrev S1x1024 : Shape := ⟨2, ![1, 1024]⟩
abbrev S1x8x128x128 : Shape := ⟨4, ![1, 8, 128, 128]⟩
abbrev S8x128x128 : Shape := ⟨3, ![8, 128, 128]⟩
abbrev S8x16x16 : Shape := ⟨3, ![8, 16, 16]⟩
abbrev S128x128 : Shape := ⟨2, ![128, 128]⟩
abbrev S128x384 : Shape := ⟨2, ![128, 384]⟩
abbrev S1x1x128x128 : Shape := ⟨4, ![1, 1, 128, 128]⟩
abbrev S1x128x128 : Shape := ⟨3, ![1, 128, 128]⟩
abbrev S16x128 : Shape := ⟨2, ![16, 128]⟩
abbrev S1x128 : Shape := ⟨2, ![1, 128]⟩
abbrev S16x384 : Shape := ⟨2, ![16, 384]⟩
abbrev S32x384 : Shape := ⟨2, ![32, 384]⟩
abbrev S32x128 : Shape := ⟨2, ![32, 128]⟩
abbrev S1x16x128 : Shape := ⟨3, ![1, 16, 128]⟩
abbrev S1 : Shape := ⟨1, ![1]⟩
abbrev S1x1x1 : Shape := ⟨3, ![1, 1, 1]⟩
abbrev S1x16x16 : Shape := ⟨3, ![1, 16, 16]⟩
abbrev S64x384 : Shape := ⟨2, ![64, 384]⟩
abbrev S64x128 : Shape := ⟨2, ![64, 128]⟩
abbrev S16 : Shape := ⟨1, ![16]⟩
abbrev S16x1 : Shape := ⟨2, ![16, 1]⟩

abbrev nBuf : Space → Nat
  | .hbm => 37
  | .vmem => 27
  | .smem => 0
  | _ => 0

abbrev bufTy : (tb : Table) → Fin (tcTables nBuf tb) → BufTy
  | .hbm, ⟨0, _⟩ => ⟨S128x16384, .f32⟩
  | .hbm, ⟨1, _⟩ => ⟨S2x4096, .f32⟩
  | .hbm, ⟨2, _⟩ => ⟨S1x4096, .f32⟩
  | .hbm, ⟨3, _⟩ => ⟨S1x32x32x128x128, .f32⟩
  | .hbm, ⟨4, _⟩ => ⟨S32x16, .bf16⟩
  | .hbm, ⟨5, _⟩ => ⟨S64x16, .bf16⟩
  | .hbm, ⟨6, _⟩ => ⟨S16x16, .i32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S2x4096, .f32⟩
  | .hbm, ⟨14, _⟩ => ⟨S2x4096, .f32⟩
  | .hbm, ⟨15, _⟩ => ⟨S2x4096, .f32⟩
  | .hbm, ⟨16, _⟩ => ⟨S_, .f32⟩
  | .hbm, ⟨17, _⟩ => ⟨S4096, .f32⟩
  | .hbm, ⟨18, _⟩ => ⟨S1x4096, .f32⟩
  | .hbm, ⟨19, _⟩ => ⟨S2x4096, .f32⟩
  | .hbm, ⟨20, _⟩ => ⟨S2x4096, .f32⟩
  | .hbm, ⟨21, _⟩ => ⟨S_, .f32⟩
  | .hbm, ⟨22, _⟩ => ⟨S_, .f32⟩
  | .hbm, ⟨23, _⟩ => ⟨S2x4096, .f32⟩
  | .hbm, ⟨24, _⟩ => ⟨S1x4096, .f32⟩
  | .hbm, ⟨25, _⟩ => ⟨S4096, .f32⟩
  | .hbm, ⟨26, _⟩ => ⟨S32x4x16384, .f32⟩
  | .hbm, ⟨27, _⟩ => ⟨S_, .f32⟩
  | .hbm, ⟨28, _⟩ => ⟨S32x12x16384, .f32⟩
  | .hbm, ⟨29, _⟩ => ⟨S32x16x16384, .f32⟩
  | .hbm, ⟨30, _⟩ => ⟨S512x16384, .f32⟩
  | .hbm, ⟨31, _⟩ => ⟨S4096, .f32⟩
  | .hbm, ⟨32, _⟩ => ⟨S32x32x128x128, .f32⟩
  | .hbm, ⟨33, _⟩ => ⟨S1x4096, .f32⟩
  | .hbm, ⟨34, _⟩ => ⟨S1x4096, .f32⟩
  | .hbm, ⟨35, _⟩ => ⟨S512x4096, .f32⟩
  | .hbm, ⟨36, _⟩ => ⟨S32x32x128x128, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S32x16, .bf16⟩
  | .local _ .vmem, ⟨13, _⟩ => ⟨S64x16, .bf16⟩
  | .local _ .vmem, ⟨14, _⟩ => ⟨S16x16, .i32⟩
  | .local _ .vmem, ⟨15, _⟩ => ⟨S1x8x128x128, .f32⟩
  | .local _ .vmem, ⟨16, _⟩ => ⟨S1x8x128x128, .f32⟩
  | .local _ .vmem, ⟨17, _⟩ => ⟨S16x1024, .f32⟩
  | .local _ .vmem, ⟨18, _⟩ => ⟨S16x1024, .f32⟩
  | .local _ .vmem, ⟨19, _⟩ => ⟨S1x8x128x128, .f32⟩
  | .local _ .vmem, ⟨20, _⟩ => ⟨S1x8x128x128, .f32⟩
  | .local _ .vmem, ⟨21, _⟩ => ⟨S8x128x128, .f32⟩
  | .local _ .vmem, ⟨22, _⟩ => ⟨S8x16x16, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x384, .bf16⟩
  | _, _ => ⟨S128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_c : Ref sig .tc := ⟨.hbm, 6, rfl⟩
abbrev main_cst_1 : Ref sig .tc := ⟨.hbm, 7, rfl⟩
abbrev main_v0 : Ref sig .tc := ⟨.hbm, 8, rfl⟩
abbrev main_cst_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_call0_cst : Ref sig .tc := ⟨.hbm, 21, rfl⟩
abbrev main_call0_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![32, 4, 1], ![false, false, false]⟩

@[reducible] def k0_t1_loop : Scf.Loop 32 :=
  let c0_i32_417 : BitVec 32 := 0#32
  let c8_i32 : BitVec 32 := 8#32
  let v1013 : BitVec 32 := Scalar.addi c0_i32_417 c8_i32
  let c1_i32 : BitVec 32 := 1#32
  ⟨c0_i32_417, v1013, c1_i32⟩
def k0_mult1 (k0_t1 : Fin k0_t1_loop.trips) : BitVec 32 :=
  let c0_i32_417 : BitVec 32 := 0#32
  let c1_i32 : BitVec 32 := 1#32
  let arg21 : BitVec 32 := Scf.iv c0_i32_417 c1_i32 k0_t1
  let c16_i32 : BitVec 32 := 16#32
  let v1014 : BitVec 32 := Scalar.muli arg21 c16_i32
  v1014
def k0_off1 (k0_t1 : Fin k0_t1_loop.trips) : Fin 2 → Nat :=
  let c0_i32_417 : BitVec 32 := 0#32
  let c1_i32 : BitVec 32 := 1#32
  let arg21 : BitVec 32 := Scf.iv c0_i32_417 c1_i32 k0_t1
  let c16_i32 : BitVec 32 := 16#32
  let v1014 : BitVec 32 := Scalar.muli arg21 c16_i32
  let v1015 : BitVec 32 := v1014
  let v1016 : Index := Scalar.indexCast v1015
  let c0_419 : Index := 0#32
  ![v1016.toNat, 0]
def k0_off2 (k0_t1 : Fin k0_t1_loop.trips) : Fin 2 → Nat :=
  let c0_i32_417 : BitVec 32 := 0#32
  let c1_i32 : BitVec 32 := 1#32
  let arg21 : BitVec 32 := Scf.iv c0_i32_417 c1_i32 k0_t1
  let c16_i32 : BitVec 32 := 16#32
  let v1014 : BitVec 32 := Scalar.muli arg21 c16_i32
  let v1015 : BitVec 32 := v1014
  let v1023 : Index := Scalar.indexCast v1015
  let c0_424 : Index := 0#32
  ![v1023.toNat, 0]
def k0_off3 (k0_t1 : Fin k0_t1_loop.trips) : Fin 3 → Nat :=
  let c0_i32_417 : BitVec 32 := 0#32
  let c1_i32 : BitVec 32 := 1#32
  let arg21 : BitVec 32 := Scf.iv c0_i32_417 c1_i32 k0_t1
  let v1136 : Index := Scalar.indexCast arg21
  let c0_459 : Index := 0#32
  let c0_460 : Index := 0#32
  ![v1136.toNat, 0, 0]
def k0_cond4 (i : grid0.Coords) : BitVec 1 :=
  let arg2 : BitVec 32 := BitVec.ofNat 32 (i 2).val
  let c0_i32_358 : BitVec 32 := 0#32
  let v914 : BitVec 1 := Scalar.cmpi .eq arg2 c0_i32_358
  let v915 : BitVec 32 := Scalar.extui v914
  let c0_i32_359 : BitVec 32 := 0#32
  let v916 : BitVec 1 := Scalar.cmpi .ne v915 c0_i32_359
  v916

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S32x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S64x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S16x16 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== KernelRefIdeal.lean ====
abbrev S128x16384 : Shape := ⟨2, ![128, 16384]⟩
abbrev S2x4096 : Shape := ⟨2, ![2, 4096]⟩
abbrev S1x4096 : Shape := ⟨2, ![1, 4096]⟩
abbrev S1x32x32x128x128 : Shape := ⟨5, ![1, 32, 32, 128, 128]⟩
abbrev S_ : Shape := ⟨0, ![]⟩
abbrev S4096 : Shape := ⟨1, ![4096]⟩
abbrev S32x4x16384 : Shape := ⟨3, ![32, 4, 16384]⟩
abbrev S32x4x4096 : Shape := ⟨3, ![32, 4, 4096]⟩
abbrev S1x1x4096 : Shape := ⟨3, ![1, 1, 4096]⟩
abbrev S32x4x32x128 : Shape := ⟨4, ![32, 4, 32, 128]⟩
abbrev S32x32x4x128 : Shape := ⟨4, ![32, 32, 4, 128]⟩
abbrev S32x32x1x128 : Shape := ⟨4, ![32, 32, 1, 128]⟩
abbrev S32x32x128 : Shape := ⟨3, ![32, 32, 128]⟩
abbrev S32x32x128x1 : Shape := ⟨4, ![32, 32, 128, 1]⟩
abbrev S32x32x128x128 : Shape := ⟨4, ![32, 32, 128, 128]⟩

abbrev nBuf : Space → Nat
  | .hbm => 71
  | .vmem => 0
  | .smem => 0
  | _ => 0

abbrev bufTy : (tb : Table) → Fin (tcTables nBuf tb) → BufTy
  | .hbm, ⟨0, _⟩ => ⟨S128x16384, .f32⟩
  | .hbm, ⟨1, _⟩ => ⟨S2x4096, .f32⟩
  | .hbm, ⟨2, _⟩ => ⟨S1x4096, .f32⟩
  | .hbm, ⟨3, _⟩ => ⟨S1x32x32x128x128, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S2x4096, .f32⟩
  | .hbm, ⟨11, _⟩ => ⟨S2x4096, .f32⟩
  | .hbm, ⟨12, _⟩ => ⟨S2x4096, .f32⟩
  | .hbm, ⟨13, _⟩ => ⟨S_, .f32⟩
  | .hbm, ⟨14, _⟩ => ⟨S4096, .f32⟩
  | .hbm, ⟨15, _⟩ => ⟨S1x4096, .f32⟩
  | .hbm, ⟨16, _⟩ => ⟨S2x4096, .f32⟩
  | .hbm, ⟨17, _⟩ => ⟨S2x4096, .f32⟩
  | .hbm, ⟨18, _⟩ => ⟨S_, .f32⟩
  | .hbm, ⟨19, _⟩ => ⟨S_, .f32⟩
  | .hbm, ⟨20, _⟩ => ⟨S2x4096, .f32⟩
  | .hbm, ⟨21, _⟩ => ⟨S1x4096, .f32⟩
  | .hbm, ⟨22, _⟩ => ⟨S4096, .f32⟩
  | .hbm, ⟨23, _⟩ => ⟨S32x4x16384, .f32⟩
  | .hbm, ⟨24, _⟩ => ⟨S32x4x4096, .f32⟩
  | .hbm, ⟨25, _⟩ => ⟨S32x4x4096, .f32⟩
  | .hbm, ⟨26, _⟩ => ⟨S32x4x4096, .f32⟩
  | .hbm, ⟨27, _⟩ => ⟨S32x4x4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S32x4x4096, .f32⟩
  | .hbm, ⟨32, _⟩ => ⟨S32x4x4096, .f32⟩
  | .hbm, ⟨33, _⟩ => ⟨S_, .f32⟩
  | .hbm, ⟨34, _⟩ => ⟨S32x4x4096, .f32⟩
  | .hbm, ⟨35, _⟩ => ⟨S32x4x4096, .f32⟩
  | .hbm, ⟨36, _⟩ => ⟨S_, .f32⟩
  | .hbm, ⟨37, _⟩ => ⟨S32x4x4096, .f32⟩
  | .hbm, ⟨38, _⟩ => ⟨S32x4x4096, .f32⟩
  | .hbm, ⟨39, _⟩ => ⟨S1x1x4096, .f32⟩
  | .hbm, ⟨40, _⟩ => ⟨S32x4x4096, .f32⟩
  | .hbm, ⟨41, _⟩ => ⟨S32x4x4096, .f32⟩
  | .hbm, ⟨42, _⟩ => ⟨S1x1x4096, .f32⟩
  | .hbm, ⟨43, _⟩ => ⟨S32x4x4096, .f32⟩
  | .hbm, ⟨44, _⟩ => ⟨S32x4x4096, .f32⟩
  | .hbm, ⟨45, _⟩ => ⟨S_, .f32⟩
  | .hbm, ⟨46, _⟩ => ⟨S32x4x4096, .f32⟩
  | .hbm, ⟨47, _⟩ => ⟨S32x4x4096, .f32⟩
  | .hbm, ⟨48, _⟩ => ⟨S32x4x32x128, .f32⟩
  | .hbm, ⟨49, _⟩ => ⟨S32x32x4x128, .f32⟩
  | .hbm, ⟨50, _⟩ => ⟨S32x4x4096, .f32⟩
  | .hbm, ⟨51, _⟩ => ⟨S32x4x32x128, .f32⟩
  | .hbm, ⟨52, _⟩ => ⟨S32x32x4x128, .f32⟩
  | .hbm, ⟨53, _⟩ => ⟨S32x4x32x128, .f32⟩
  | .hbm, ⟨54, _⟩ => ⟨S32x32x4x128, .f32⟩
  | .hbm, ⟨55, _⟩ => ⟨S_, .f32⟩
  | .hbm, ⟨56, _⟩ => ⟨S_, .f32⟩
  | .hbm, ⟨57, _⟩ => ⟨S32x32x4x128, .f32⟩
  | .hbm, ⟨58, _⟩ => ⟨S32x32x1x128, .f32⟩
  | .hbm, ⟨59, _⟩ => ⟨S32x32x128, .f32⟩
  | .hbm, ⟨60, _⟩ => ⟨S32x32x128x1, .f32⟩
  | .hbm, ⟨61, _⟩ => ⟨S32x32x128x1, .f32⟩
  | .hbm, ⟨62, _⟩ => ⟨S32x32x128x128, .f32⟩
  | .hbm, ⟨63, _⟩ => ⟨S32x32x128x128, .f32⟩
  | .hbm, ⟨64, _⟩ => ⟨S32x32x128x128, .f32⟩
  | .hbm, ⟨65, _⟩ => ⟨S32x32x4x128, .f32⟩
  | .hbm, ⟨66, _⟩ => ⟨S32x32x4x128, .f32⟩
  | .hbm, ⟨67, _⟩ => ⟨S32x32x4x128, .f32⟩
  | .hbm, ⟨68, _⟩ => ⟨S32x32x4x128, .f32⟩
  | .hbm, ⟨69, _⟩ => ⟨S32x32x128x128, .f32⟩
  | .hbm, ⟨70, _⟩ => ⟨S32x32x128x128, .f32⟩
  | _, _ => ⟨S128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_call0_cst : Ref sig .tc := ⟨.hbm, 55, rfl⟩
abbrev main_call1_call0_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Hg.lean ====
abbrev S8320x4096 : Shape := ⟨2, ![8320, 4096]⟩
abbrev S1x4096x34976 : Shape := ⟨3, ![1, 4096, 34976]⟩
abbrev S4096x34976 : Shape := ⟨2, ![4096, 34976]⟩
abbrev S8320x16384 : Shape := ⟨2, ![8320, 16384]⟩
abbrev S640x4096 : Shape := ⟨2, ![640, 4096]⟩
abbrev S4096x1024 : Shape := ⟨2, ![4096, 1024]⟩
abbrev S640x1024 : Shape := ⟨2, ![640, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S1x4096x34976, .f32⟩
  | .hbm, ⟨2, _⟩ => ⟨S4096x34976, .f32⟩
  | .hbm, ⟨3, _⟩ => ⟨S4096x34976, .bf16⟩
  | .hbm, ⟨4, _⟩ => ⟨S8320x16384, .f32⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S4096x1024, .bf16⟩
  | .local _ .vmem, ⟨4, _⟩ => ⟨S640x1024, .f32⟩
  | .local _ .vmem, ⟨5, _⟩ => ⟨S640x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgRefIdeal.lean ====
abbrev S8320x4096 : Shape := ⟨2, ![8320, 4096]⟩
abbrev S1x4096x34976 : Shape := ⟨3, ![1, 4096, 34976]⟩
abbrev S4096x34976 : Shape := ⟨2, ![4096, 34976]⟩
abbrev S8320x34976 : Shape := ⟨2, ![8320, 34976]⟩
abbrev S8320x16384 : Shape := ⟨2, ![8320, 16384]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x34976, .f32⟩
  | .hbm, ⟨2, _⟩ => ⟨S8320x4096, .f32⟩
  | .hbm, ⟨3, _⟩ => ⟨S4096x34976, .f32⟩
  | .hbm, ⟨4, _⟩ => ⟨S8320x34976, .f32⟩
  | .hbm, ⟨5, _⟩ => ⟨S8320x16384, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Qp.lean ====
abbrev S8320x4096 : Shape := ⟨2, ![8320, 4096]⟩
abbrev S1x4096x34976 : Shape := ⟨3, ![1, 4096, 34976]⟩
abbrev S4096x34976 : Shape := ⟨2, ![4096, 34976]⟩
abbrev S640x4096 : Shape := ⟨2, ![640, 4096]⟩
abbrev S4096x1024 : Shape := ⟨2, ![4096, 1024]⟩
abbrev S640x1024 : Shape := ⟨2, ![640, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S1x4096x34976, .f32⟩
  | .hbm, ⟨2, _⟩ => ⟨S4096x34976, .f32⟩
  | .hbm, ⟨3, _⟩ => ⟨S4096x34976, .bf16⟩
  | .hbm, ⟨4, _⟩ => ⟨S8320x4096, .f32⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S4096x1024, .bf16⟩
  | .local _ .vmem, ⟨4, _⟩ => ⟨S640x1024, .f32⟩
  | .local _ .vmem, ⟨5, _⟩ => ⟨S640x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QpRefIdeal.lean ====
abbrev S8320x4096 : Shape := ⟨2, ![8320, 4096]⟩
abbrev S1x4096x34976 : Shape := ⟨3, ![1, 4096, 34976]⟩
abbrev S4096x34976 : Shape := ⟨2, ![4096, 34976]⟩
abbrev S8320x34976 : Shape := ⟨2, ![8320, 34976]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x34976, .f32⟩
  | .hbm, ⟨2, _⟩ => ⟨S8320x4096, .f32⟩
  | .hbm, ⟨3, _⟩ => ⟨S4096x34976, .f32⟩
  | .hbm, ⟨4, _⟩ => ⟨S8320x34976, .f32⟩
  | .hbm, ⟨5, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kv.lean ====
abbrev S8320x4096 : Shape := ⟨2, ![8320, 4096]⟩
abbrev S1x4096x34976 : Shape := ⟨3, ![1, 4096, 34976]⟩
abbrev S4096x34976 : Shape := ⟨2, ![4096, 34976]⟩
abbrev S8320x2048 : Shape := ⟨2, ![8320, 2048]⟩
abbrev S640x4096 : Shape := ⟨2, ![640, 4096]⟩
abbrev S4096x1024 : Shape := ⟨2, ![4096, 1024]⟩
abbrev S640x1024 : Shape := ⟨2, ![640, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S1x4096x34976, .f32⟩
  | .hbm, ⟨2, _⟩ => ⟨S4096x34976, .f32⟩
  | .hbm, ⟨3, _⟩ => ⟨S4096x34976, .bf16⟩
  | .hbm, ⟨4, _⟩ => ⟨S8320x2048, .f32⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S4096x1024, .bf16⟩
  | .local _ .vmem, ⟨4, _⟩ => ⟨S640x1024, .f32⟩
  | .local _ .vmem, ⟨5, _⟩ => ⟨S640x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S8320x4096 : Shape := ⟨2, ![8320, 4096]⟩
abbrev S1x4096x34976 : Shape := ⟨3, ![1, 4096, 34976]⟩
abbrev S4096x34976 : Shape := ⟨2, ![4096, 34976]⟩
abbrev S8320x34976 : Shape := ⟨2, ![8320, 34976]⟩
abbrev S8320x2048 : Shape := ⟨2, ![8320, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x34976, .f32⟩
  | .hbm, ⟨2, _⟩ => ⟨S8320x4096, .f32⟩
  | .hbm, ⟨3, _⟩ => ⟨S4096x34976, .f32⟩
  | .hbm, ⟨4, _⟩ => ⟨S8320x34976, .f32⟩
  | .hbm, ⟨5, _⟩ => ⟨S8320x2048, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Qi.lean ====
abbrev S8320x4096 : Shape := ⟨2, ![8320, 4096]⟩
abbrev S1x4096x34976 : Shape := ⟨3, ![1, 4096, 34976]⟩
abbrev S4096x34976 : Shape := ⟨2, ![4096, 34976]⟩
abbrev S65x32x128x128 : Shape := ⟨4, ![65, 32, 128, 128]⟩
abbrev S640x4096 : Shape := ⟨2, ![640, 4096]⟩
abbrev S4096x1024 : Shape := ⟨2, ![4096, 1024]⟩
abbrev S5x8x128x128 : Shape := ⟨4, ![5, 8, 128, 128]⟩
abbrev S640x1024 : Shape := ⟨2, ![640, 1024]⟩
abbrev S128x128 : Shape := ⟨2, ![128, 128]⟩
abbrev S1x1x128x128 : Shape := ⟨4, ![1, 1, 128, 128]⟩

abbrev nBuf : Space → Nat
  | .hbm => 5
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S1x4096x34976, .f32⟩
  | .hbm, ⟨2, _⟩ => ⟨S4096x34976, .f32⟩
  | .hbm, ⟨3, _⟩ => ⟨S4096x34976, .bf16⟩
  | .hbm, ⟨4, _⟩ => ⟨S65x32x128x128, .f32⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S4096x1024, .bf16⟩
  | .local _ .vmem, ⟨4, _⟩ => ⟨S5x8x128x128, .f32⟩
  | .local _ .vmem, ⟨5, _⟩ => ⟨S5x8x128x128, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QiRefIdeal.lean ====
abbrev S8320x4096 : Shape := ⟨2, ![8320, 4096]⟩
abbrev S1x4096x34976 : Shape := ⟨3, ![1, 4096, 34976]⟩
abbrev S4096x34976 : Shape := ⟨2, ![4096, 34976]⟩
abbrev S8320x34976 : Shape := ⟨2, ![8320, 34976]⟩
abbrev S65x128x32x128 : Shape := ⟨4, ![65, 128, 32, 128]⟩
abbrev S65x32x128x128 : Shape := ⟨4, ![65, 32, 128, 128]⟩

abbrev nBuf : Space → Nat
  | .hbm => 8
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x34976, .f32⟩
  | .hbm, ⟨2, _⟩ => ⟨S8320x4096, .f32⟩
  | .hbm, ⟨3, _⟩ => ⟨S4096x34976, .f32⟩
  | .hbm, ⟨4, _⟩ => ⟨S8320x34976, .f32⟩
  | .hbm, ⟨5, _⟩ => ⟨S8320x4096, .f32⟩
  | .hbm, ⟨6, _⟩ => ⟨S65x128x32x128, .f32⟩
  | .hbm, ⟨7, _⟩ => ⟨S65x32x128x128, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Sm.lean ====
abbrev S8320x4096 : Shape := ⟨2, ![8320, 4096]⟩
abbrev S1x4096x34976 : Shape := ⟨3, ![1, 4096, 34976]⟩
abbrev S4096x34976 : Shape := ⟨2, ![4096, 34976]⟩
abbrev S_ : Shape := ⟨0, ![]⟩
abbrev S4096x256 : Shape := ⟨2, ![4096, 256]⟩
abbrev S4096x160 : Shape := ⟨2, ![4096, 160]⟩
abbrev S1 : Shape := ⟨1, ![1]⟩
abbrev S8320x256 : Shape := ⟨2, ![8320, 256]⟩
abbrev S640x4096 : Shape := ⟨2, ![640, 4096]⟩
abbrev S640x256 : Shape := ⟨2, ![640, 256]⟩

abbrev nBuf : Space → Nat
  | .hbm => 11
  | .vmem => 5
  | .smem => 0
  | _ => 0

abbrev bufTy : (tb : Table) → Fin (tcTables nBuf tb) → BufTy
  | .hbm, ⟨0, _⟩ => ⟨S8320x4096, .bf16⟩
  | .hbm, ⟨1, _⟩ => ⟨S1x4096x34976, .f32⟩
  | .hbm, ⟨2, _⟩ => ⟨S4096x34976, .f32⟩
  | .hbm, ⟨3, _⟩ => ⟨S4096x34976, .bf16⟩
  | .hbm, ⟨4, _⟩ => ⟨S_, .bf16⟩
  | .hbm, ⟨5, _⟩ => ⟨S4096x256, .bf16⟩
  | .hbm, ⟨6, _⟩ => ⟨S4096x160, .bf16⟩
  | .hbm, ⟨7, _⟩ => ⟨S_, .i32⟩
  | .hbm, ⟨8, _⟩ => ⟨S1, .i32⟩
  | .hbm, ⟨9, _⟩ => ⟨S4096x256, .bf16⟩
  | .hbm, ⟨10, _⟩ => ⟨S8320x256, .f32⟩
  | .local _ .vmem, ⟨0, _⟩ => ⟨S640x4096, .bf16⟩
  | .local _ .vmem, ⟨1, _⟩ => ⟨S640x4096, .bf16⟩
  | .local _ .vmem, ⟨2, _⟩ => ⟨S4096x256, .bf16⟩
  | .local _ .vmem, ⟨3, _⟩ => ⟨S640x256, .f32⟩
  | .local _ .vmem, ⟨4, _⟩ => ⟨S640x256, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SmRefIdeal.lean ====
abbrev S8320x4096 : Shape := ⟨2, ![8320, 4096]⟩
abbrev S1x4096x34976 : Shape := ⟨3, ![1, 4096, 34976]⟩
abbrev S4096x34976 : Shape := ⟨2, ![4096, 34976]⟩
abbrev S8320x34976 : Shape := ⟨2, ![8320, 34976]⟩
abbrev S8320x160 : Shape := ⟨2, ![8320, 160]⟩
abbrev S_ : Shape := ⟨0, ![]⟩
abbrev S8320x256 : Shape := ⟨2, ![8320, 256]⟩

abbrev nBuf : Space → Nat
  | .hbm => 9
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x34976, .f32⟩
  | .hbm, ⟨2, _⟩ => ⟨S8320x4096, .f32⟩
  | .hbm, ⟨3, _⟩ => ⟨S4096x34976, .f32⟩
  | .hbm, ⟨4, _⟩ => ⟨S8320x34976, .f32⟩
  | .hbm, ⟨5, _⟩ => ⟨S8320x160, .f32⟩
  | .hbm, ⟨6, _⟩ => ⟨S_, .i32⟩
  | .hbm, ⟨7, _⟩ => ⟨S_, .f32⟩
  | .hbm, ⟨8, _⟩ => ⟨S8320x256, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Ga.lean ====
abbrev S8320x4096 : Shape := ⟨2, ![8320, 4096]⟩
abbrev S1x4096x34976 : Shape := ⟨3, ![1, 4096, 34976]⟩
abbrev S4096x34976 : Shape := ⟨2, ![4096, 34976]⟩
abbrev S4096x8192 : Shape := ⟨2, ![4096, 8192]⟩
abbrev S8320x8192 : Shape := ⟨2, ![8320, 8192]⟩
abbrev S640x4096 : Shape := ⟨2, ![640, 4096]⟩
abbrev S4096x1024 : Shape := ⟨2, ![4096, 1024]⟩
abbrev S640x1024 : Shape := ⟨2, ![640, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S1x4096x34976, .f32⟩
  | .hbm, ⟨2, _⟩ => ⟨S4096x34976, .f32⟩
  | .hbm, ⟨3, _⟩ => ⟨S4096x34976, .bf16⟩
  | .hbm, ⟨4, _⟩ => ⟨S4096x8192, .bf16⟩
  | .hbm, ⟨5, _⟩ => ⟨S8320x8192, .f32⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S4096x1024, .bf16⟩
  | .local _ .vmem, ⟨4, _⟩ => ⟨S640x1024, .f32⟩
  | .local _ .vmem, ⟨5, _⟩ => ⟨S640x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GaRefIdeal.lean ====
abbrev S8320x4096 : Shape := ⟨2, ![8320, 4096]⟩
abbrev S1x4096x34976 : Shape := ⟨3, ![1, 4096, 34976]⟩
abbrev S4096x34976 : Shape := ⟨2, ![4096, 34976]⟩
abbrev S8320x34976 : Shape := ⟨2, ![8320, 34976]⟩
abbrev S8320x8192 : Shape := ⟨2, ![8320, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x34976, .f32⟩
  | .hbm, ⟨2, _⟩ => ⟨S8320x4096, .f32⟩
  | .hbm, ⟨3, _⟩ => ⟨S4096x34976, .f32⟩
  | .hbm, ⟨4, _⟩ => ⟨S8320x34976, .f32⟩
  | .hbm, ⟨5, _⟩ => ⟨S8320x8192, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Op.lean ====
abbrev S8320x4096 : Shape := ⟨2, ![8320, 4096]⟩
abbrev S1x4096x4096 : Shape := ⟨3, ![1, 4096, 4096]⟩
abbrev S4096x4096 : Shape := ⟨2, ![4096, 4096]⟩
abbrev S640x4096 : Shape := ⟨2, ![640, 4096]⟩
abbrev S4096x1024 : Shape := ⟨2, ![4096, 1024]⟩
abbrev S640x1024 : Shape := ⟨2, ![640, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S8320x4096, .f32⟩
  | .hbm, ⟨3, _⟩ => ⟨S4096x4096, .f32⟩
  | .hbm, ⟨4, _⟩ => ⟨S4096x4096, .bf16⟩
  | .hbm, ⟨5, _⟩ => ⟨S8320x4096, .f32⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S4096x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OpRefIdeal.lean ====
abbrev S8320x4096 : Shape := ⟨2, ![8320, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x4096, .f32⟩
  | .hbm, ⟨2, _⟩ => ⟨S8320x4096, .f32⟩
  | .hbm, ⟨3, _⟩ => ⟨S8320x4096, .f32⟩
  | .hbm, ⟨4, _⟩ => ⟨S4096x4096, .f32⟩
  | .hbm, ⟨5, _⟩ => ⟨S8320x4096, .f32⟩
  | .hbm, ⟨6, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Nm.lean ====
abbrev S4x2048x4096 : Shape := ⟨3, ![4, 2048, 4096]⟩
abbrev S32x4x4096 : Shape := ⟨3, ![32, 4, 4096]⟩
abbrev S1x4096 : Shape := ⟨2, ![1, 4096]⟩
abbrev S8192x4096 : Shape := ⟨2, ![8192, 4096]⟩
abbrev S128x4096 : Shape := ⟨2, ![128, 4096]⟩
abbrev S8320x4096 : Shape := ⟨2, ![8320, 4096]⟩
abbrev S4096 : Shape := ⟨1, ![4096]⟩
abbrev S128 : Shape := ⟨1, ![128]⟩
abbrev S128x1 : Shape := ⟨2, ![128, 1]⟩

abbrev nBuf : Space → Nat
  | .hbm => 9
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S32x4x4096, .f32⟩
  | .hbm, ⟨2, _⟩ => ⟨S1x4096, .f32⟩
  | .hbm, ⟨3, _⟩ => ⟨S8192x4096, .f32⟩
  | .hbm, ⟨4, _⟩ => ⟨S128x4096, .f32⟩
  | .hbm, ⟨5, _⟩ => ⟨S8320x4096, .f32⟩
  | .hbm, ⟨6, _⟩ => ⟨S4096, .f32⟩
  | .hbm, ⟨7, _⟩ => ⟨S1x4096, .f32⟩
  | .hbm, ⟨8, _⟩ => ⟨S8320x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NmRefIdeal.lean ====
abbrev S4x2048x4096 : Shape := ⟨3, ![4, 2048, 4096]⟩
abbrev S32x4x4096 : Shape := ⟨3, ![32, 4, 4096]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S32x4 : Shape := ⟨2, ![32, 4]⟩
abbrev S32x4x1 : Shape := ⟨3, ![32, 4, 1]⟩
abbrev S8192x4096 : Shape := ⟨2, ![8192, 4096]⟩
abbrev S128x4096 : Shape := ⟨2, ![128, 4096]⟩
abbrev S8320x4096 : Shape := ⟨2, ![8320, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S32x4x4096, .f32⟩
  | .hbm, ⟨2, _⟩ => ⟨S1x4096, .f32⟩
  | .hbm, ⟨3, _⟩ => ⟨S4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S4096, .f32⟩
  | .hbm, ⟨21, _⟩ => ⟨S32x4x4096, .f32⟩
  | .hbm, ⟨22, _⟩ => ⟨S_, .f32⟩
  | .hbm, ⟨23, _⟩ => ⟨S32x4, .f32⟩
  | .hbm, ⟨24, _⟩ => ⟨S32x4x1, .f32⟩
  | .hbm, ⟨25, _⟩ => ⟨S_, .f32⟩
  | .hbm, ⟨26, _⟩ => ⟨S32x4x1, .f32⟩
  | .hbm, ⟨27, _⟩ => ⟨S32x4x1, .f32⟩
  | .hbm, ⟨28, _⟩ => ⟨S_, .f32⟩
  | .hbm, ⟨29, _⟩ => ⟨S32x4x1, .f32⟩
  | .hbm, ⟨30, _⟩ => ⟨S32x4x1, .f32⟩
  | .hbm, ⟨31, _⟩ => ⟨S32x4x1, .f32⟩
  | .hbm, ⟨32, _⟩ => ⟨S32x4x4096, .f32⟩
  | .hbm, ⟨33, _⟩ => ⟨S32x4x4096, .f32⟩
  | .hbm, ⟨34, _⟩ => ⟨S1x1x4096, .f32⟩
  | .hbm, ⟨35, _⟩ => ⟨S32x4x4096, .f32⟩
  | .hbm, ⟨36, _⟩ => ⟨S32x4x4096, .f32⟩
  | .hbm, ⟨37, _⟩ => ⟨S8192x4096, .f32⟩
  | .hbm, ⟨38, _⟩ => ⟨S128x4096, .f32⟩
  | .hbm, ⟨39, _⟩ => ⟨S8320x4096, .f32⟩
  | .hbm, ⟨40, _⟩ => ⟨S8320x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Mg.lean ====
abbrev S8320x8192 : Shape := ⟨2, ![8320, 8192]⟩
abbrev S8192x4096 : Shape := ⟨2, ![8192, 4096]⟩
abbrev S128x4096 : Shape := ⟨2, ![128, 4096]⟩
abbrev S8320x4096 : Shape := ⟨2, ![8320, 4096]⟩
abbrev S128x1024 : Shape := ⟨2, ![128, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8320x8192, .f32⟩
  | .hbm, ⟨1, _⟩ => ⟨S8192x4096, .f32⟩
  | .hbm, ⟨2, _⟩ => ⟨S8192x4096, .f32⟩
  | .hbm, ⟨3, _⟩ => ⟨S128x4096, .f32⟩
  | .hbm, ⟨4, _⟩ => ⟨S128x4096, .f32⟩
  | .hbm, ⟨5, _⟩ => ⟨S8320x4096, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .bf16⟩
  | .local _ .vmem, ⟨13, _⟩ => ⟨S128x1024, .bf16⟩
  | _, _ => ⟨S8320x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![65, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c64_i32 : BitVec 32 := 64#32
  let v1 : BitVec 1 := Scalar.cmpi .slt arg0 c64_i32
  let c3_i32 : BitVec 32 := 3#32
  let v2 : BitVec 32 := Scalar.select v1 arg1 c3_i32
  let c0_i32 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c64_i32 : BitVec 32 := 64#32
  let v1 : BitVec 1 := Scalar.cmpi .slt arg0 c64_i32
  let c3_i32 : BitVec 32 := 3#32
  let v2 : BitVec 32 := Scalar.select v1 arg1 c3_i32
  let c0_i32 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi arg0 c64_i32
  let c0_i32 : BitVec 32 := 0#32
  let v1 : BitVec 32 := Scalar.maxsi v0 c0_i32
  let c64_i32_0 : BitVec 32 := 64#32
  let v2 : BitVec 1 := Scalar.cmpi .slt arg0 c64_i32_0
  let c0_i32_1 : BitVec 32 := 0#32
  let v3 : BitVec 32 := Scalar.select v2 c0_i32_1 arg1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi arg0 c64_i32
  let c0_i32 : BitVec 32 := 0#32
  let v1 : BitVec 32 := Scalar.maxsi v0 c0_i32
  let c64_i32_0 : BitVec 32 := 64#32
  let v2 : BitVec 1 := Scalar.cmpi .slt arg0 c64_i32_0
  let c0_i32_1 : BitVec 32 := 0#32
  let v3 : BitVec 32 := Scalar.select v2 c0_i32_1 arg1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MgRefIdeal.lean ====
abbrev S8320x8192 : Shape := ⟨2, ![8320, 8192]⟩
abbrev S8192x4096 : Shape := ⟨2, ![8192, 4096]⟩
abbrev S128x4096 : Shape := ⟨2, ![128, 4096]⟩
abbrev S8320x4096 : Shape := ⟨2, ![8320, 4096]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8320x8192, .f32⟩
  | .hbm, ⟨1, _⟩ => ⟨S8192x4096, .f32⟩
  | .hbm, ⟨2, _⟩ => ⟨S8192x4096, .f32⟩
  | .hbm, ⟨3, _⟩ => ⟨S128x4096, .f32⟩
  | .hbm, ⟨4, _⟩ => ⟨S128x4096, .f32⟩
  | .hbm, ⟨5, _⟩ => ⟨S8320x4096, .f32⟩
  | .hbm, ⟨6, _⟩ => ⟨S8320x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S128x4096, .f32⟩
  | .hbm, ⟨29, _⟩ => ⟨S128x4096, .f32⟩
  | .hbm, ⟨30, _⟩ => ⟨S128x4096, .f32⟩
  | .hbm, ⟨31, _⟩ => ⟨S_, .f32⟩
  | .hbm, ⟨32, _⟩ => ⟨S128x4096, .f32⟩
  | .hbm, ⟨33, _⟩ => ⟨S128x4096, .f32⟩
  | .hbm, ⟨34, _⟩ => ⟨S_, .f32⟩
  | .hbm, ⟨35, _⟩ => ⟨S128x4096, .f32⟩
  | .hbm, ⟨36, _⟩ => ⟨S128x4096, .f32⟩
  | .hbm, ⟨37, _⟩ => ⟨S128x4096, .f32⟩
  | .hbm, ⟨38, _⟩ => ⟨S128x4096, .f32⟩
  | .hbm, ⟨39, _⟩ => ⟨S128x4096, .f32⟩
  | .hbm, ⟨40, _⟩ => ⟨S128x4096, .f32⟩
  | .hbm, ⟨41, _⟩ => ⟨S_, .f32⟩
  | .hbm, ⟨42, _⟩ => ⟨S128x4096, .f32⟩
  | .hbm, ⟨43, _⟩ => ⟨S128x4096, .f32⟩
  | .hbm, ⟨44, _⟩ => ⟨S_, .f32⟩
  | .hbm, ⟨45, _⟩ => ⟨S128x4096, .f32⟩
  | .hbm, ⟨46, _⟩ => ⟨S128x4096, .f32⟩
  | .hbm, ⟨47, _⟩ => ⟨S128x4096, .f32⟩
  | .hbm, ⟨48, _⟩ => ⟨S128x4096, .f32⟩
  | .hbm, ⟨49, _⟩ => ⟨S8320x4096, .f32⟩
  | .hbm, ⟨50, _⟩ => ⟨S8320x4096, .bf16⟩
  | _, _ => ⟨S8320x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Hgrn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's own elements on core `c`, held in full at contents `f`. -/
abbrev pt (c : Dev nD) {S : Shape} {e : EltTy} (M : Memref sig .tc .vmem S e) (f : BufTy.Contents (Elt F) M.view.ty) : sProp 𝕄 :=
  M.view.loc (c : Thread nD τ) ↦[M.view.set]{fullShare} f

variable (c : Dev nD) (i : grid0.Coords)
    (arg3 : Memref sig .tc .vmem S16x1024 .f32) (harg3 : arg3.IsWhole)
    (arg4 : Memref sig .tc .vmem S16x1024 .f32) (harg4 : arg4.IsWhole)
    (arg5 : Memref sig .tc .vmem S16x1024 .f32) (harg5 : arg5.IsWhole)
    (arg6 : Memref sig .tc .vmem S16x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S32x16 .bf16) (harg9 : arg9.IsWhole)
    (arg10 : Memref sig .tc .vmem S64x16 .bf16) (harg10 : arg10.IsWhole)
    (arg11 : Memref sig .tc .vmem S16x16 .i32) (harg11 : arg11.IsWhole)
    (arg12 : Memref sig .tc .vmem S1x8x128x128 .f32) (harg12 : arg12.IsWhole)
    (arg13 : Memref sig .tc .vmem S16x1024 .f32) (harg13 : arg13.IsWhole)
    (arg14 : Memref sig .tc .vmem S1x8x128x128 .f32) (harg14 : arg14.IsWhole)
    (arg15 : Memref sig .tc .vmem S8x128x128 .f32) (harg15 : arg15.IsWhole)
    (arg16 : Memref sig .tc .vmem S8x16x16 .f32) (harg16 : arg16.IsWhole)
    (arg17 : Memref sig .tc .vmem S128x128 .f32) (harg17 : arg17.IsWhole)
    (arg18 : Memref sig .tc .vmem S128x128 .f32) (harg18 : arg18.IsWhole)
    (arg19 : Memref sig .tc .vmem S128x128 .f32) (harg19 : arg19.IsWhole)
    (arg20 : Memref sig .tc .vmem S128x384 .bf16) (harg20 : arg20.IsWhole)

/-- Writes that cover the shape of a whole memref leave the same contents whatever it held before. -/
theorem writes_eq_junk_of_cover {κ : Kind} {sp : Space} {S : Shape} {e : EltTy} {M : Memref sig κ sp S e} (hM : M.IsWhole)
    (f : BufTy.Contents (Elt F) M.view.ty) (L : List (View.Piece (Elt F) S e)) (h : ∀ y : S.Idx, ∃ p ∈ L, y ∈ p.1.set) :
    M.view.writes (Elt F) f L = M.view.writes (Elt F) M.view.junk L := by
  obtain ⟨b, rfl, rfl, rfl, h'⟩ := hM; cases h'
  funext y
  exact View.read_writes_apply_eq (View.whole b) f (View.whole b) (View.whole b).junk y L (h y)

/-- A word of one bit, widened and compared with zero, is set as the word is. -/
theorem word_ne (w : BitVec 1) : (Scalar.cmpi .ne (Scalar.extui w : BitVec 32) 0#32 = 1#1) ↔ w = 1#1 := by
  revert w; decide +kernel

/-- The complement of a word of one bit, widened and compared with zero, is set when the word is not. -/
theorem word_not_ne (w : BitVec 1) : (Scalar.cmpi .ne (Scalar.extui (Scalar.xori w 1#1) : BitVec 32) 0#32 = 1#1) ↔ ¬ w = 1#1 := by
  revert w; decide +kernel

section Loop

variable (X10 : BufTy.Contents (Elt F) arg10.view.ty) (X17 : BufTy.Contents (Elt F) arg17.view.ty) (X18 : BufTy.Contents (Elt F) arg18.view.ty)
    (X19 : BufTy.Contents (Elt F) arg19.view.ty) (X20 : BufTy.Contents (Elt F) arg20.view.ty)
    (v3 : Vec F S16x16 .i32) (v5 : IVec S16x128 32) (v35 : FVec F S16x128 .f32) (v42 : FVec F S16x128 .f32)
    (v50 : FVec F S16x384 .bf16) (v57 : FVec F S16x128 .f32) (v66 : FVec F S16x128 .bf16) (v73 : FVec F S16x128 .bf16)
    (v103 : FVec F S16x128 .f32) (v110 : FVec F S16x128 .f32) (v118 : FVec F S16x384 .bf16) (v125 : FVec F S16x128 .f32)
    (v135 : FVec F S16x128 .bf16) (v172 : FVec F S16x128 .f32) (v179 : FVec F S16x128 .f32) (v187 : FVec F S16x384 .bf16)
    (v194 : FVec F S16x128 .f32) (v204 : FVec F S16x128 .bf16) (v241 : FVec F S16x128 .f32) (v248 : FVec F S16x128 .f32)
    (v256 : FVec F S16x384 .bf16) (v263 : FVec F S16x128 .f32) (v273 : FVec F S16x128 .bf16) (v310 : FVec F S16x128 .f32)
    (v317 : FVec F S16x128 .f32) (v325 : FVec F S16x384 .bf16) (v332 : FVec F S16x128 .f32) (v342 : FVec F S16x128 .bf16)
    (v379 : FVec F S16x128 .f32) (v386 : FVec F S16x128 .f32) (v394 : FVec F S16x384 .bf16) (v401 : FVec F S16x128 .f32)
    (v411 : FVec F S16x128 .bf16) (v448 : FVec F S16x128 .f32) (v455 : FVec F S16x128 .f32) (v463 : FVec F S16x384 .bf16)
    (v470 : FVec F S16x128 .f32) (v477 : BitVec 1) (v480 : FVec F S16x128 .bf16) (v517 : FVec F S16x128 .f32)
    (v524 : FVec F S16x128 .f32) (v532 : FVec F S16x384 .bf16) (v536 : FVec F S32x128 .f32) (v537 : FVec F S32x128 .f32)

/-- One trip writes one piece: row block `k` of the score scratch. -/
theorem trip_piece (k : Fin k0_t1_loop.trips) :
    ∃ w, tripL_k0_t1 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537 X10 X17 X18 X19 X20 k
      = [⟨Rect.unit (s := S8x16x16) (k0_off3 k) S1x16x16.size (k0_off3_inb k), w⟩] := by
  refine ⟨?_, ?_⟩
  rotate_left
  · unfold tripL_k0_t1 trip_k0_t1
    rfl

/-- Trip `k` writes at row `k`. -/
theorem off3_eq : ∀ k : Fin k0_t1_loop.trips, k0_off3 k = ![k.val, 0, 0] := by decide +kernel

/-- The loop makes eight trips. -/
theorem trips_eq : Scf.trips k0_t1_loop.lb k0_t1_loop.ub k0_t1_loop.st = 8 := by decide +kernel

/-- After `n` trips every element of the first `n` rows has been written. -/
theorem pb_cover : ∀ (n : ℕ) (hn : n ≤ k0_t1_loop.trips) (y : S8x16x16.Idx), (y 0).val < n →
    ∃ p ∈ pb_k0_t1 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537 X10 X17 X18 X19 X20 n, y ∈ p.1.set := by
  intro n
  induction n with
  | zero => intro _ y hy; exact absurd hy (Nat.not_lt_zero _)
  | succ n ih =>
    intro hn y hy
    rw [pb_k0_t1_succ Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537 X10 X17 X18 X19 X20 ⟨n, hn⟩]
    rcases Nat.lt_succ_iff_lt_or_eq.mp hy with h | h
    · obtain ⟨p, hp, hy⟩ := ih (by omega) y h
      exact ⟨p, List.mem_append_right _ hp, hy⟩
    · obtain ⟨w, hw⟩ := trip_piece c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X10 X17 X18 X19 X20 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537 ⟨n, hn⟩
      rw [hw]
      refine ⟨_, List.mem_append_left _ (List.mem_singleton.mpr rfl), ?_⟩
      rw [Rect.mem_set_unit, off3_eq]
      intro a
      match a with
      | ⟨0, _⟩ => exact ⟨Nat.le_of_eq h.symm, by show (y 0).val < n + 1; omega⟩
      | ⟨1, _⟩ => exact ⟨Nat.zero_le _, by show (y 1).val < 0 + 16; rw [Nat.zero_add]; exact (y 1).isLt⟩
      | ⟨2, _⟩ => exact ⟨Nat.zero_le _, by show (y 2).val < 0 + 16; rw [Nat.zero_add]; exact (y 2).isLt⟩

end Loop

/-- The word that sends the score computation to the slow branch: some head's gates fall below the bound. -/
abbrev slowWord (v477 : BitVec 1) (v536 v537 : FVec F S32x128 .f32) : BitVec 1 :=
  Scalar.ori v477 (Scalar.cmpf .olt (k0_pay188 v536 v537) (Scalar.ofBits .f32 0xC2700000#32))

section Scores

variable (X5 : BufTy.Contents (Elt F) arg5.view.ty) (X6 : BufTy.Contents (Elt F) arg6.view.ty) (X8 : BufTy.Contents (Elt F) arg8.view.ty)
    (X10 : BufTy.Contents (Elt F) arg10.view.ty) (X15 : BufTy.Contents (Elt F) arg15.view.ty)
    (v3 : Vec F S16x16 .i32) (v5 : IVec S16x128 32) (v35 : FVec F S16x128 .f32) (v42 : FVec F S16x128 .f32)
    (v50 : FVec F S16x384 .bf16) (v57 : FVec F S16x128 .f32) (v66 : FVec F S16x128 .bf16) (v73 : FVec F S16x128 .bf16)
    (v103 : FVec F S16x128 .f32) (v110 : FVec F S16x128 .f32) (v118 : FVec F S16x384 .bf16) (v125 : FVec F S16x128 .f32)
    (v135 : FVec F S16x128 .bf16) (v172 : FVec F S16x128 .f32) (v179 : FVec F S16x128 .f32) (v187 : FVec F S16x384 .bf16)
    (v194 : FVec F S16x128 .f32) (v204 : FVec F S16x128 .bf16) (v241 : FVec F S16x128 .f32) (v248 : FVec F S16x128 .f32)
    (v256 : FVec F S16x384 .bf16) (v263 : FVec F S16x128 .f32) (v273 : FVec F S16x128 .bf16) (v310 : FVec F S16x128 .f32)
    (v317 : FVec F S16x128 .f32) (v325 : FVec F S16x384 .bf16) (v332 : FVec F S16x128 .f32) (v342 : FVec F S16x128 .bf16)
    (v379 : FVec F S16x128 .f32) (v386 : FVec F S16x128 .f32) (v394 : FVec F S16x384 .bf16) (v401 : FVec F S16x128 .f32)
    (v411 : FVec F S16x128 .bf16) (v448 : FVec F S16x128 .f32) (v455 : FVec F S16x128 .f32) (v463 : FVec F S16x384 .bf16)
    (v470 : FVec F S16x128 .f32) (v477 : BitVec 1) (v480 : FVec F S16x128 .bf16) (v517 : FVec F S16x128 .f32)
    (v524 : FVec F S16x128 .f32) (v532 : FVec F S16x384 .bf16) (v536 : FVec F S32x128 .f32) (v537 : FVec F S32x128 .f32)

/-- What the part that computes the scores returns, from what the score scratch holds when it ends. -/
abbrev ret22 (S16 : BufTy.Contents (Elt F) arg16.view.ty) :
    Σ' (v540 : FVec F S16x128 .f32) (v549 : FVec F S16x128 .bf16) (v553 : FVec F S16x128 .bf16) (v556 : FVec F S16x128 .bf16) (v563 : FVec F S1x128 .f32) (v565 : FVec F S16x128 .f32) (v567 : FVec F S128x128 .f32) (v574 : FVec F S16x128 .f32), FVec F S16x128 .f32 :=
  ⟨k0_pay187 v536 v537, k0_pay189 v517 v536 v537, k0_pay190 v524 v536 v537,
    k0_pay191 (arg5.view.readAt (Elt F) (Rect.unit (s := S16x1024) ![0, 896] S16x128.size inb_S16x1024_S16x128_0_896).toLoadRect X5),
    k0_pay198 (arg8.view.readAt (Elt F) (Rect.unit (s := S1x1024) ![0, 0] S1x128.size inb_S1x1024_S1x128_0_0).toLoadRect X8),
    k0_pay199 (arg6.view.readAt (Elt F) (Rect.unit (s := S16x1024) ![0, 0] S16x128.size inb_S16x1024_S16x128_0_0).toLoadRect X6),
    k0_pay200 (arg15.view.readAt (Elt F) (Rect.unit (s := S8x128x128) ![0, 0, 0] S1x128x128.size inb_S8x128x128_S1x128x128_0_0_0).toLoadRect X15),
    k0_pay201 v66 v73 (arg15.view.readAt (Elt F) (Rect.unit (s := S8x128x128) ![0, 0, 0] S1x128x128.size inb_S8x128x128_S1x128x128_0_0_0).toLoadRect X15)
      (arg16.view.readAt (Elt F) (Rect.unit (s := S8x16x16) ![0, 0, 0] S1x16x16.size inb_S8x16x16_S1x16x16_0_0_0).toLoadRect S16),
    k0_pay202 v66 v73 (arg15.view.readAt (Elt F) (Rect.unit (s := S8x128x128) ![0, 0, 0] S1x128x128.size inb_S8x128x128_S1x128x128_0_0_0).toLoadRect X15)
      (arg16.view.readAt (Elt F) (Rect.unit (s := S8x16x16) ![0, 0, 0] S1x16x16.size inb_S8x16x16_S1x16x16_0_0_0).toLoadRect S16)⟩

/-- A run of the part when the word is set: the loop writes every head's scores. -/
def slowRun :
    { L : List (View.Piece (Elt F) S8x16x16 .f32) //
      slowWord v477 v536 v537 = 1#1 → ∀ (f16 : BufTy.Contents (Elt F) arg16.view.ty) (f17 : BufTy.Contents (Elt F) arg17.view.ty) (f18 : BufTy.Contents (Elt F) arg18.view.ty)
        (f19 : BufTy.Contents (Elt F) arg19.view.ty) (f20 : BufTy.Contents (Elt F) arg20.view.ty) (Q : _ → sProp 𝕄),
      iprop(pt c arg5 X5 ∗ pt c arg6 X6 ∗ pt c arg8 X8 ∗ pt c arg10 X10 ∗ pt c arg15 X15 ∗ pt c arg16 f16 ∗ pt c arg17 f17 ∗ pt c arg18 f18 ∗ pt c arg19 f19 ∗ pt c arg20 f20
        ∗ (∀ r, iprop(pt c arg5 X5 ∗ pt c arg6 X6 ∗ pt c arg8 X8 ∗ pt c arg10 X10 ∗ pt c arg15 X15 ∗ pt c arg16 (arg16.view.writes (Elt F) arg16.view.junk L)
            ∗ (∃ f, pt c arg17 f) ∗ (∃ f, pt c arg18 f) ∗ (∃ f, pt c arg19 f) ∗ (∃ f, pt c arg20 f) ∗ ⌜r = ret22 arg5 arg6 arg8 arg15 arg16 X5 X6 X8 X15 v66 v73 v517 v524 v536 v537 (arg16.view.writes (Elt F) arg16.view.junk L)⌝) -∗ Q r))
      ⊢ wp frame (wpE (defs₀ (F := F)) Variants.none c none) Set.univ (k0_part22 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537) Q } := by
  refine ⟨?_, fun hw f16 f17 f18 f19 f20 Q => ?run⟩
  case run =>
    rw [k0_part22_eq_skeleton]; unfold k0_part22_skel
    have hA : Scalar.cmpi .ne (Scalar.extui (slowWord v477 v536 v537) : BitVec 32) 0#32 = 1#1 := (word_ne _).mpr hw
    have hB : ¬ (Scalar.cmpi .ne (Scalar.extui (Scalar.xori (slowWord v477 v536 v537) 1#1) : BitVec 32) 0#32 = 1#1) := fun h => (word_not_ne _).mp h hw
    iintro ⟨H5, H6, H8, H10, H15, H16, H17, H18, H19, H20, Hk⟩
    sl_exec!
    unfold slowRun.sl.v568
    rw [writes_eq_junk_of_cover harg16 f16]
    swap
    · rw [trips_eq]
      intro y
      exact pb_cover c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537 8 (by decide +kernel) y (y 0).isLt
    sl_step
    iapply Hk
    isplitl [H5]; · iexact H5
    isplitl [H6]; · iexact H6
    isplitl [H8]; · iexact H8
    isplitl [H10]; · iexact H10
    isplitl [H15]; · iexact H15
    isplitl [H16]; · iexact H16
    isplitl [H17]; · iexists _; iexact H17
    isplitl [H18]; · iexists _; iexact H18
    isplitl [H19]; · iexists _; iexact H19
    isplitl [H20]; · iexists _; iexact H20
    ipureintro; rfl

/-- A run of the part when the word is not set: every head's scores are written straight. -/
def fastRun :
    { L : List (View.Piece (Elt F) S8x16x16 .f32) //
      ¬ slowWord v477 v536 v537 = 1#1 → ∀ (f16 : BufTy.Contents (Elt F) arg16.view.ty) (f17 : BufTy.Contents (Elt F) arg17.view.ty) (f18 : BufTy.Contents (Elt F) arg18.view.ty)
        (f19 : BufTy.Contents (Elt F) arg19.view.ty) (f20 : BufTy.Contents (Elt F) arg20.view.ty) (Q : _ → sProp 𝕄),
      iprop(pt c arg5 X5 ∗ pt c arg6 X6 ∗ pt c arg8 X8 ∗ pt c arg10 X10 ∗ pt c arg15 X15 ∗ pt c arg16 f16 ∗ pt c arg17 f17 ∗ pt c arg18 f18 ∗ pt c arg19 f19 ∗ pt c arg20 f20
        ∗ (∀ r, iprop(pt c arg5 X5 ∗ pt c arg6 X6 ∗ pt c arg8 X8 ∗ pt c arg10 X10 ∗ pt c arg15 X15 ∗ pt c arg16 (arg16.view.writes (Elt F) arg16.view.junk L)
            ∗ (∃ f, pt c arg17 f) ∗ (∃ f, pt c arg18 f) ∗ (∃ f, pt c arg19 f) ∗ (∃ f, pt c arg20 f) ∗ ⌜r = ret22 arg5 arg6 arg8 arg15 arg16 X5 X6 X8 X15 v66 v73 v517 v524 v536 v537 (arg16.view.writes (Elt F) arg16.view.junk L)⌝) -∗ Q r))
      ⊢ wp frame (wpE (defs₀ (F := F)) Variants.none c none) Set.univ (k0_part22 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537) Q } := by
  refine ⟨?_, fun hw f16 f17 f18 f19 f20 Q => ?run⟩
  case run =>
    rw [k0_part22_eq_skeleton]; unfold k0_part22_skel
    have hA : Scalar.cmpi .ne (Scalar.extui (Scalar.xori (slowWord v477 v536 v537) 1#1) : BitVec 32) 0#32 = 1#1 := (word_not_ne _).mpr hw
    have hB : ¬ (Scalar.cmpi .ne (Scalar.extui (slowWord v477 v536 v537) : BitVec 32) 0#32 = 1#1) := fun h => hw ((word_ne _).mp h)
    iintro ⟨H5, H6, H8, H10, H15, H16, H17, H18, H19, H20, Hk⟩
    sl_exec!
    unfold fastRun.sl.v568
    sl_step
    iapply Hk
    isplitl [H5]; · iexact H5
    isplitl [H6]; · iexact H6
    isplitl [H8]; · iexact H8
    isplitl [H10]; · iexact H10
    isplitl [H15]; · iexact H15
    isplitl [H16]; · iexact H16
    isplitl [H17]; · iexists _; iexact H17
    isplitl [H18]; · iexists _; iexact H18
    isplitl [H19]; · iexists _; iexact H19
    isplitl [H20]; · iexists _; iexact H20
    ipureintro; rfl

/-- What the score scratch holds when the part ends: the pieces of the branch that the word takes. -/
def scoreBuf : BufTy.Contents (Elt F) arg16.view.ty :=
  if slowWord v477 v536 v537 = 1#1 then arg16.view.writes (Elt F) arg16.view.junk (slowRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X5 X6 X8 X10 X15 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537).1
  else arg16.view.writes (Elt F) arg16.view.junk (fastRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X5 X6 X8 X10 X15 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537).1

/-- A run of the part: the score scratch ends with the pieces of the branch the word takes. -/
theorem score_run : ∀ (f16 : BufTy.Contents (Elt F) arg16.view.ty) (f17 : BufTy.Contents (Elt F) arg17.view.ty) (f18 : BufTy.Contents (Elt F) arg18.view.ty)
        (f19 : BufTy.Contents (Elt F) arg19.view.ty) (f20 : BufTy.Contents (Elt F) arg20.view.ty) (Q : _ → sProp 𝕄),
      iprop(pt c arg5 X5 ∗ pt c arg6 X6 ∗ pt c arg8 X8 ∗ pt c arg10 X10 ∗ pt c arg15 X15 ∗ pt c arg16 f16 ∗ pt c arg17 f17 ∗ pt c arg18 f18 ∗ pt c arg19 f19 ∗ pt c arg20 f20
        ∗ (∀ r, iprop(pt c arg5 X5 ∗ pt c arg6 X6 ∗ pt c arg8 X8 ∗ pt c arg10 X10 ∗ pt c arg15 X15 ∗ pt c arg16 (scoreBuf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X5 X6 X8 X10 X15 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537)
            ∗ (∃ f, pt c arg17 f) ∗ (∃ f, pt c arg18 f) ∗ (∃ f, pt c arg19 f) ∗ (∃ f, pt c arg20 f) ∗ ⌜r = ret22 arg5 arg6 arg8 arg15 arg16 X5 X6 X8 X15 v66 v73 v517 v524 v536 v537 (scoreBuf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X5 X6 X8 X10 X15 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537)⌝) -∗ Q r))
      ⊢ wp frame (wpE (defs₀ (F := F)) Variants.none c none) Set.univ (k0_part22 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537) Q := by
  intro f16 f17 f18 f19 f20 Q
  unfold scoreBuf
  by_cases hw : slowWord v477 v536 v537 = 1#1
  · simp only [if_pos hw]
    exact (slowRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X5 X6 X8 X10 X15 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537).2 hw f16 f17 f18 f19 f20 Q
  · simp only [if_neg hw]
    exact (fastRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X5 X6 X8 X10 X15 v3 v5 v35 v42 v50 v57 v66 v73 v103 v110 v118 v125 v135 v172 v179 v187 v194 v204 v241 v248 v256 v263 v273 v310 v317 v325 v332 v342 v379 v386 v394 v401 v411 v448 v455 v463 v470 v477 v480 v517 v524 v532 v536 v537).2 hw f16 f17 f18 f19 f20 Q

end Scores

/-- A run of the body at the first block of its sequence. -/
def run (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (h1 : Scalar.cmpi .ne (Scalar.extui (Scalar.cmpi .eq (BitVec.ofNat 32 (i 2).val) 0#32) : BitVec 32) 0#32 = 1#1) (h4 : k0_cond4 i = 1#1) :
    { L : List (View.Piece (Elt F) S16x1024 .f32) × List (View.Piece (Elt F) S1x8x128x128 .f32) //
      ∀ (f13 : BufTy.Contents (Elt F) arg13.view.ty) (f14 : BufTy.Contents (Elt F) arg14.view.ty) (f15 : BufTy.Contents (Elt F) arg15.view.ty)
        (f16 : BufTy.Contents (Elt F) arg16.view.ty) (f17 : BufTy.Contents (Elt F) arg17.view.ty) (f18 : BufTy.Contents (Elt F) arg18.view.ty)
        (f19 : BufTy.Contents (Elt F) arg19.view.ty) (f20 : BufTy.Contents (Elt F) arg20.view.ty) (Q : PUnit → sProp 𝕄),
      iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 f13 ∗ pt c arg14 f14 ∗ pt c arg15 f15 ∗ pt c arg16 f16 ∗ pt c arg17 f17 ∗ pt c arg18 f18 ∗ pt c arg19 f19 ∗ pt c arg20 f20
        ∗ (iprop(pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 (arg13.view.writes (Elt F) f13 L.1) ∗ pt c arg14 (arg14.view.writes (Elt F) f14 L.2)
            ∗ (∃ f, pt c arg15 f) ∗ (∃ f, pt c arg16 f) ∗ (∃ f, pt c arg17 f) ∗ (∃ f, pt c arg18 f) ∗ (∃ f, pt c arg19 f) ∗ (∃ f, pt c arg20 f)) -∗ Q ⟨⟩))
      ⊢ wp frame (wpE (defs₀ (F := F)) Variants.none c none) Set.univ (cc0_hgrn2_sample i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q } := by
  refine ⟨(?L1, ?L2), fun f13 f14 f15 f16 f17 f18 f19 f20 Q => ?run⟩
  case run =>
    simp only [cc0_hgrn2_sample_eq_skeleton]; unfold cc0_hgrn2_sample_skel
    iintro ⟨H3, H4, H5, H6, H7, H8, H9, H10, H11, H12, H13, H14, H15, H16, H17, H18, H19, H20, Hk⟩
    set_option sl_exec.stopBefore "k0_part22" in sl_exec
    rw [writes_eq_junk_of_cover harg15 f15]
    swap
    · exact View.cover_of_tiledL _ S1x128x128.size (by sl_kernel_rfl)
    dsimp only
    rw [wp_bind]
    iapply (score_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X5 X6 X8 X10 _ _ _ _ _ _ _ _ _ _ _ _ _ _ _ _ _ _ _ _ _ _ _ _ _ _ _ _ _ _ _ _ _ _ _ _ _ _ _ _ _ _ _ _ _)
    isplitl [H5]; · iexact H5
    isplitl [H6]; · iexact H6
    isplitl [H8]; · iexact H8
    isplitl [H10]; · iexact H10
    isplitl [H15]; · iexact H15
    isplitl [H16]; · iexact H16
    isplitl [H17]; · iexact H17
    isplitl [H18]; · iexact H18
    isplitl [H19]; · iexact H19
    isplitl [H20]; · iexact H20
    iintro %r ⟨H5, H6, H8, H10, H15, H16, ⟨%g17, H17⟩, ⟨%g18, H18⟩, ⟨%g19, H19⟩, ⟨%g20, H20⟩, %hr⟩
    subst hr
    dsimp only [ret22]
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.KernelIdeal.Hgrn
-- ==== Proof.NmValue.lean ====
module

public import proofs.«01_k».proof.Proof.Gen.NmIdeal.Value
public import proofs.«01_k».proof.Proof.Gen.NmRefIdeal.Run
public import proofs.«01_k».proof.Proof.Gen.NmRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NmIdeal.Norm

open Cert.NmIdeal Cert.NmIdeal.Gen

variable (m : (ℓ : Loc nD τ sig) → Buf (Elt Ideal) ℓ)

/-- The windows' block indices at every point. -/
theorem idx : ∀ t : Fin cfg0.N, win0_0.index t = ![(grid0.coords t 0).val, 0] ∧ win0_1.index t = ![0, 0] ∧ win0_2.index t = ![(grid0.coords t 0).val, 0] :=
  (by decide +kernel : ∀ t : Fin grid0.N, _)

/-- A row `x` over the root of its mean square, times the gain `g`. -/
def normed (x g : Fin 4096 → EReal) (n : Fin 4096) : EReal :=
  x n * Ideal.rsqrt (Ideal.div (∑ k, x k * x k) (Ideal.ofBits .f32 0x45800000#32) + Ideal.ofBits .f32 0x358637BD#32) * g n

/-- What the body stores at an index. -/
theorem pay_at (X : Vec Ideal S128x4096 .f32) (G : Vec Ideal S1x4096 .f32) (a : Fin 128) (n : Fin 4096) :
    k0_pay1 X G (ix2 a n) = normed (fun k => X (ix2 a k)) (fun k => G (ix2 0 k)) n := by
  unfold normed
  pointwise [k0_pay1]

/-- The rows of both batches. -/
abbrev rows (x0 : FVec Ideal S4x2048x4096 .f32) (x1 : FVec Ideal S32x4x4096 .f32) : FVec Ideal S8320x4096 .f32 :=
  concatenate S8320x4096 0 [⟨S8192x4096, shapeCast S8192x4096 x0 shapeCasts_S4x2048x4096_S8192x4096⟩, ⟨S128x4096, shapeCast S128x4096 x1 shapeCasts_S32x4x4096_S128x4096⟩] concatenates_S8192x4096_S128x4096_S8320x4096_d0

/-- The reference's prompt rows at an index. -/
theorem prompt_at (x0 : FVec Ideal S4x2048x4096 .f32) (x2 : FVec Ideal S1x4096 .f32) (b : Fin 4) (s : Fin 2048) (n : Fin 4096) :
    NmRefIdeal.Read.val_main_v13 (F := Ideal) x0 x2 (ix3 b s n) = normed (fun k => x0 (ix3 b s k)) (fun k => x2 (ix2 0 k)) n := by
  unfold normed NmRefIdeal.Read.val_main_v13 NmRefIdeal.Read.val_main_v12 NmRefIdeal.Read.val_main_v11 NmRefIdeal.Read.val_main_v10 NmRefIdeal.Read.val_main_v9 NmRefIdeal.Read.val_main_v8 NmRefIdeal.Read.val_main_v7 NmRefIdeal.Read.val_main_v6 NmRefIdeal.Read.val_main_v5 NmRefIdeal.Read.val_main_v4 NmRefIdeal.Read.val_main_v3 NmRefIdeal.Read.val_main_v2 NmRefIdeal.Read.val_main_v1 NmRefIdeal.Read.val_main_v0 NmRefIdeal.Read.val_main_cst NmRefIdeal.Read.val_main_cst_0 NmRefIdeal.Read.val_main_cst_1
  pointwise

/-- The reference's sample rows at an index. -/
theorem sample_at (x1 : FVec Ideal S32x4x4096 .f32) (x2 : FVec Ideal S1x4096 .f32) (b : Fin 32) (s : Fin 4) (n : Fin 4096) :
    NmRefIdeal.Read.val_main_v27 (F := Ideal) x1 x2 (ix3 b s n) = normed (fun k => x1 (ix3 b s k)) (fun k => x2 (ix2 0 k)) n := by
  unfold normed NmRefIdeal.Read.val_main_v27 NmRefIdeal.Read.val_main_v26 NmRefIdeal.Read.val_main_v25 NmRefIdeal.Read.val_main_v24 NmRefIdeal.Read.val_main_v23 NmRefIdeal.Read.val_main_v22 NmRefIdeal.Read.val_main_v21 NmRefIdeal.Read.val_main_v20 NmRefIdeal.Read.val_main_v19 NmRefIdeal.Read.val_main_v18 NmRefIdeal.Read.val_main_v17 NmRefIdeal.Read.val_main_v16 NmRefIdeal.Read.val_main_v15 NmRefIdeal.Read.val_main_v14 NmRefIdeal.Read.val_main_cst_2 NmRefIdeal.Read.val_main_cst_3 NmRefIdeal.Read.val_main_cst_4
  pointwise

/-- What the reference computes at an index. -/
theorem ref_at (x0 : FVec Ideal S4x2048x4096 .f32) (x1 : FVec Ideal S32x4x4096 .f32) (x2 : FVec Ideal S1x4096 .f32) (r : Fin 8320) (n : Fin 4096) :
    NmRefIdeal.Read.val_main_v31 (F := Ideal) x0 x1 x2 (ix2 r n) = normed (fun k => rows x0 x1 (ix2 r k)) (fun k => x2 (ix2 0 k)) n := by
  have p := prompt_at x0 x2
  have q := sample_at x1 x2
  unfold NmRefIdeal.Read.val_main_v31 NmRefIdeal.Read.val_main_v30 NmRefIdeal.Read.val_main_v29 NmRefIdeal.Read.val_main_v28
  generalize NmRefIdeal.Read.val_main_v13 (F := Ideal) x0 x2 = P at p ⊢
  generalize NmRefIdeal.Read.val_main_v27 (F := Ideal) x1 x2 = Q at q ⊢
  obtain ⟨f, hf⟩ : ∃ f : (Fin 4096 → EReal) → EReal, ∀ x, f x = normed x (fun k => x2 (ix2 0 k)) n := ⟨_, fun _ => rfl⟩
  rw [← hf]
  pointwise
  by_cases h : r.val < 8192
  · exact (dif_pos h).trans ((p _ _ n).trans ((hf _).symm.trans (congrArg f (funext fun k => by rw [dif_pos h]))))
  · exact (dif_neg h).trans ((q _ _ n).trans ((hf _).symm.trans (congrArg f (funext fun k => by rw [dif_neg h]))))

/-- What the region finds of the rows. -/
theorem entry_rows (c : Dev nD) : V m c main_v2 = rows (m ((c : Thread nD τ).loc main_arg0)) (m ((c : Thread nD τ).loc main_arg1)) := by
  unfold V
  after_results
  rfl

/-- What the region finds of the gains. -/
theorem entry_gain (c : Dev nD) : V m c main_v4 = shapeCast S1x4096 (shapeCast S4096 (m ((c : Thread nD τ).loc main_arg2)) shapeCasts_S1x4096_S4096) shapeCasts_S4096_S1x4096 := by
  unfold V
  after_results
  rfl

/-- The gains at an index. -/
theorem gain_at (x : FVec Ideal S1x4096 .f32) (k : Fin 4096) :
    (shapeCast S1x4096 (shapeCast S4096 x shapeCasts_S1x4096_S4096) shapeCasts_S4096_S1x4096 : FVec Ideal S1x4096 .f32) (ix2 0 k) = x (ix2 0 k) := by
  pointwise

/-- What the reference computes of the arguments. -/
abbrev REF (c : Dev nD) : FVec Ideal S8320x4096 .bf16 :=
  NmRefIdeal.Read.val_main_v31 (F := Ideal) (m ((c : Thread nD τ).loc main_arg0)) (m ((c : Thread nD τ).loc main_arg1)) (m ((c : Thread nD τ).loc main_arg2))

/-- What the body stores at an index of a point is the reference's value. -/
theorem point (c : Dev nD) (t : Fin cfg0.N) (a : Fin 128) (n : Fin 4096) : k0_pay1 (iblk m c 0 t) (iblk m c 1 t) (ix2 a n)
    = REF m c (ix2 ⟨(grid0.coords t 0).val * 128 + a.val, by have : (grid0.coords t 0).val < 65 := (grid0.coords t 0).isLt; omega⟩ n) := by
  unfold REF
  rw [pay_at, ref_at, ← entry_rows m c]
  refine congrArg₂ (fun x g => normed x g n) (funext fun k => ?_) (funext fun k => ?_)
  · refine congrArg (V m c main_v2) ?_
    blk_ext [idx t]
  · refine Eq.trans ?_ ((congrFun (entry_gain m c) (ix2 0 k)).trans (gain_at _ k))
    refine congrArg (V m c main_v4) ?_
    blk_ext [idx t]

/-- The blocks written back cover the result. -/
theorem covers : (cfg0.win 2).Covers := by decide +kernel

/-- The result array after the run is the reference's. -/
theorem final (c : Dev nD) : (dats m 0 c).arrAt 2 (cfgs 0).N = REF m c := by
  refine (dats m 0 c).arrAt_eq_of_covers 2 _ covers fun t _ y => ?_
  blk_simp
  rw [after0_2]
  unfold out0_2
  frame_out
  have hy : y = ix2 (y 0) (y 1) := by
    funext a
    match a with
    | ⟨0, _⟩ => rfl
    | ⟨1, _⟩ => rfl
  rw [hy]
  refine (point m c t _ _).trans (congrArg (REF m c) ?_)
  blk_ext [idx t]

end Cert.NmIdeal.Norm

end
-- ==== Proof.MgValue.lean ====
module

public import proofs.«01_k».proof.Proof.Gen.MgIdeal.Value
public import proofs.«01_k».proof.Proof.Gen.MgRefIdeal.Run
public import proofs.«01_k».proof.Proof.Gen.MgRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MgIdeal.Merge

open Cert.MgIdeal Cert.MgIdeal.Gen

variable (m : (ℓ : Loc nD τ sig) → Buf (Elt Ideal) ℓ)

/-- The gates' and the result's block indices at every point. -/
theorem idx : ∀ t : Fin cfg0.N, win0_0.index t = ![(grid0.coords t 0).val, (grid0.coords t 1).val] ∧ win0_1.index t = ![(grid0.coords t 0).val, 4 + (grid0.coords t 1).val] ∧ win0_6.index t = ![(grid0.coords t 0).val, (grid0.coords t 1).val] :=
  (by decide +kernel : ∀ t : Fin grid0.N, _)

/-- The prompt branches' block indices at a prompt point. -/
theorem idx_prompt : ∀ t : Fin cfg0.N, (grid0.coords t 0).val < 64 → win0_2.index t = ![(grid0.coords t 0).val, (grid0.coords t 1).val] ∧ win0_3.index t = ![(grid0.coords t 0).val, (grid0.coords t 1).val] :=
  (by decide +kernel : ∀ t : Fin grid0.N, _)

/-- The sample branches' block indices at a sample point. -/
theorem idx_sample : ∀ t : Fin cfg0.N, ¬ (grid0.coords t 0).val < 64 → win0_4.index t = ![0, (grid0.coords t 1).val] ∧ win0_5.index t = ![0, (grid0.coords t 1).val] :=
  (by decide +kernel : ∀ t : Fin grid0.N, _)

/-- The prompt's blocks are the first sixty-four. -/
theorem cond : ∀ i : Fin 65, Scalar.cmpi .slt (BitVec.ofNat 32 i.val) 64#32 = if i.val < 64 then 1#1 else 0#1 := by decide +kernel

/-- The logistic function of a number. -/
def gate (z : EReal) : EReal := Ideal.div (Ideal.ofBits .f32 0x3F800000#32) (Ideal.ofBits .f32 0x3F800000#32 + Ideal.exp (-z))

/-- What the body stores at an index of a prompt point. -/
theorem pay_prompt (i : grid0.Coords) (hi : (i 0).val < 64) (A A' B B' X Y : Vec Ideal S128x1024 .f32) (a : Fin 128) (n : Fin 1024) :
    k0_pay1 i A A' B B' X Y (ix2 a n) = gate (X (ix2 a n)) * A (ix2 a n) + gate (Y (ix2 a n)) * B (ix2 a n) := by
  have hc : Scalar.cmpi .slt (BitVec.ofNat 32 (i 0).val) 64#32 = 1#1 := (cond (i 0)).trans (if_pos hi)
  have h1 : Scalar.select (1#1) A A' = A := rfl
  have h2 : Scalar.select (1#1) B B' = B := rfl
  unfold gate k0_pay1
  rw [hc, h1, h2]
  pointwise
  simp only [Ideal.ofBits_zero, zero_sub]

/-- What the body stores at an index of a sample point. -/
theorem pay_sample (i : grid0.Coords) (hi : ¬ (i 0).val < 64) (A A' B B' X Y : Vec Ideal S128x1024 .f32) (a : Fin 128) (n : Fin 1024) :
    k0_pay1 i A A' B B' X Y (ix2 a n) = gate (X (ix2 a n)) * A' (ix2 a n) + gate (Y (ix2 a n)) * B' (ix2 a n) := by
  have hc : Scalar.cmpi .slt (BitVec.ofNat 32 (i 0).val) 64#32 = 0#1 := (cond (i 0)).trans (if_neg hi)
  have h1 : Scalar.select (0#1) A A' = A' := rfl
  have h2 : Scalar.select (0#1) B B' = B' := rfl
  unfold gate k0_pay1
  rw [hc, h1, h2]
  pointwise
  simp only [Ideal.ofBits_zero, zero_sub]

/-- The reference's prompt rows at an index. -/
theorem prompt_at (x0 : FVec Ideal S8320x8192 .f32) (x1 x2 : FVec Ideal S8192x4096 .f32) (r : Fin 8192) (n : Fin 4096) :
    MgRefIdeal.Read.val_main_v18 (F := Ideal) x0 x1 x2 (ix2 r n) = gate (x0 (ix2 ⟨r.val, by omega⟩ ⟨n.val, by omega⟩)) * x1 (ix2 r n) + gate (x0 (ix2 ⟨r.val, by omega⟩ ⟨4096 + n.val, by omega⟩)) * x2 (ix2 r n) := by
  unfold gate MgRefIdeal.Read.val_main_v18 MgRefIdeal.Read.val_main_v17 MgRefIdeal.Read.val_main_v16 MgRefIdeal.Read.val_main_v15 MgRefIdeal.Read.val_main_v14 MgRefIdeal.Read.val_main_v13 MgRefIdeal.Read.val_main_v12 MgRefIdeal.Read.val_main_v11 MgRefIdeal.Read.val_main_v10 MgRefIdeal.Read.val_main_v9 MgRefIdeal.Read.val_main_v8 MgRefIdeal.Read.val_main_v7 MgRefIdeal.Read.val_main_v6 MgRefIdeal.Read.val_main_v5 MgRefIdeal.Read.val_main_v4 MgRefIdeal.Read.val_main_v3 MgRefIdeal.Read.val_main_v2 MgRefIdeal.Read.val_main_v1 MgRefIdeal.Read.val_main_v0 MgRefIdeal.Read.val_main_cst MgRefIdeal.Read.val_main_cst_0 MgRefIdeal.Read.val_main_cst_1 MgRefIdeal.Read.val_main_cst_2
  pointwise

/-- The reference's sample rows at an index. -/
theorem sample_at (x0 : FVec Ideal S8320x8192 .f32) (x3 x4 : FVec Ideal S128x4096 .f32) (r : Fin 128) (n : Fin 4096) :
    MgRefIdeal.Read.val_main_v35 (F := Ideal) x0 x3 x4 (ix2 r n) = gate (x0 (ix2 ⟨8192 + r.val, by omega⟩ ⟨n.val, by omega⟩)) * x3 (ix2 r n) + gate (x0 (ix2 ⟨8192 + r.val, by omega⟩ ⟨4096 + n.val, by omega⟩)) * x4 (ix2 r n) := by
  unfold gate MgRefIdeal.Read.val_main_v35 MgRefIdeal.Read.val_main_v34 MgRefIdeal.Read.val_main_v33 MgRefIdeal.Read.val_main_v32 MgRefIdeal.Read.val_main_v31 MgRefIdeal.Read.val_main_v30 MgRefIdeal.Read.val_main_v29 MgRefIdeal.Read.val_main_v28 MgRefIdeal.Read.val_main_v27 MgRefIdeal.Read.val_main_v26 MgRefIdeal.Read.val_main_v25 MgRefIdeal.Read.val_main_v24 MgRefIdeal.Read.val_main_v23 MgRefIdeal.Read.val_main_v22 MgRefIdeal.Read.val_main_v21 MgRefIdeal.Read.val_main_v20 MgRefIdeal.Read.val_main_v19 MgRefIdeal.Read.val_main_v1 MgRefIdeal.Read.val_main_v0 MgRefIdeal.Read.val_main_cst_3 MgRefIdeal.Read.val_main_cst_4 MgRefIdeal.Read.val_main_cst_5 MgRefIdeal.Read.val_main_cst_6
  pointwise

/-- What the reference computes at an index. -/
theorem ref_at (x0 : FVec Ideal S8320x8192 .f32) (x1 x2 : FVec Ideal S8192x4096 .f32) (x3 x4 : FVec Ideal S128x4096 .f32) (r : Fin 8320) (n : Fin 4096) :
    MgRefIdeal.Read.val_main_v37 (F := Ideal) x0 x1 x2 x3 x4 (ix2 r n) = if h : r.val < 8192 then MgRefIdeal.Read.val_main_v18 (F := Ideal) x0 x1 x2 (ix2 ⟨r.val, h⟩ n) else MgRefIdeal.Read.val_main_v35 (F := Ideal) x0 x3 x4 (ix2 ⟨r.val - 8192, by omega⟩ n) := by
  unfold MgRefIdeal.Read.val_main_v37 MgRefIdeal.Read.val_main_v36
  generalize MgRefIdeal.Read.val_main_v18 (F := Ideal) x0 x1 x2 = P
  generalize MgRefIdeal.Read.val_main_v35 (F := Ideal) x0 x3 x4 = Q
  pointwise

/-- What the reference computes of the arguments. -/
abbrev REF (c : Dev nD) : FVec Ideal S8320x4096 .bf16 :=
  MgRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- What the body stores at an index of a point is the reference's value. -/
theorem point (c : Dev nD) (t : Fin cfg0.N) (a : Fin 128) (n : Fin 1024) : k0_pay1 (grid0.coords t) (iblk m c 2 t) (iblk m c 4 t) (iblk m c 3 t) (iblk m c 5 t) (iblk m c 0 t) (iblk m c 1 t) (ix2 a n)
    = REF m c (ix2 ⟨(grid0.coords t 0).val * 128 + a.val, by have : (grid0.coords t 0).val < 65 := (grid0.coords t 0).isLt; omega⟩ ⟨(grid0.coords t 1).val * 1024 + n.val, by have : (grid0.coords t 1).val < 4 := (grid0.coords t 1).isLt; omega⟩) := by
  have h0 : (grid0.coords t 0).val < 65 := (grid0.coords t 0).isLt
  have h1 : (grid0.coords t 1).val < 4 := (grid0.coords t 1).isLt
  unfold REF
  rw [ref_at]
  by_cases hi : (grid0.coords t 0).val < 64
  · rw [dif_pos (show (grid0.coords t 0).val * 128 + a.val < 8192 by omega), pay_prompt _ hi, prompt_at]
    refine congrArg₂ (· + ·) (congrArg₂ (· * ·) (congrArg gate ?_) ?_) (congrArg₂ (· * ·) (congrArg gate ?_) ?_)
    · refine congrArg (m ((c : Thread nD τ).loc main_arg0)) ?_
      blk_ext [idx t]
    · refine congrArg (m ((c : Thread nD τ).loc main_arg1)) ?_
      blk_ext [idx_prompt t hi]
    · refine congrArg (m ((c : Thread nD τ).loc main_arg0)) ?_
      blk_ext [idx t]
    · refine congrArg (m ((c : Thread nD τ).loc main_arg2)) ?_
      blk_ext [idx_prompt t hi]
  · rw [dif_neg (show ¬ (grid0.coords t 0).val * 128 + a.val < 8192 by omega), pay_sample _ hi, sample_at]
    refine congrArg₂ (· + ·) (congrArg₂ (· * ·) (congrArg gate ?_) ?_) (congrArg₂ (· * ·) (congrArg gate ?_) ?_)
    · refine congrArg (m ((c : Thread nD τ).loc main_arg0)) ?_
      blk_ext [idx t]
    · refine congrArg (m ((c : Thread nD τ).loc main_arg3)) ?_
      blk_ext [idx_sample t hi]
    · refine congrArg (m ((c : Thread nD τ).loc main_arg0)) ?_
      blk_ext [idx t]
    · refine congrArg (m ((c : Thread nD τ).loc main_arg4)) ?_
      blk_ext [idx_sample t hi]

/-- The blocks written back cover the result. -/
theorem covers : (cfg0.win 6).Covers := by decide +kernel

/-- The result array after the run is the reference's. -/
theorem final (c : Dev nD) : (dats m 0 c).arrAt 6 (cfgs 0).N = REF m c := by
  refine (dats m 0 c).arrAt_eq_of_covers 6 _ covers fun t _ y => ?_
  blk_simp
  rw [after0_6]
  unfold out0_6
  frame_out
  have hy : y = ix2 (y 0) (y 1) := by
    funext a
    match a with
    | ⟨0, _⟩ => rfl
    | ⟨1, _⟩ => rfl
  rw [hy]
  refine (point m c t _ _).trans (congrArg (REF m c) ?_)
  blk_ext [idx t]

end Cert.MgIdeal.Merge

end
-- ==== Proof.HgValue.lean ====
module

public import proofs.«01_k».proof.Proof.Gen.HgIdeal.Value
public import proofs.«01_k».proof.Proof.Gen.HgRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HgIdeal.Product

open Cert.HgIdeal Cert.HgIdeal.Gen

variable (m : (ℓ : Loc nD τ sig) → Buf (Elt Ideal) ℓ)

/-- What the reference computes of the rows `X` and the weights `W`: the product with every column, the gated recurrence's taken. -/
abbrev REF (X : FVec Ideal S8320x4096 .bf16) (W : FVec Ideal S1x4096x34976 .f32) : FVec Ideal S8320x16384 .f32 :=
  extractStridedSlice Cert.HgRefIdeal.S8320x16384 ![0, 0] (Host.dotGeneral Cert.HgRefIdeal.dot_S8320x4096_S4096x34976_S8320x34976_1_0_0_1_n_n none (extf .f32 X Cert.HgRefIdeal.Gen.bitsLt_bf16_f32) (shapeCast _ W Cert.HgRefIdeal.Gen.shapeCasts_S1x4096x34976_S4096x34976)) Cert.HgRefIdeal.Gen.slices_S8320x34976_S8320x16384_0_0

/-- The windows' block indices at every point. -/
theorem idx : ∀ t : Fin cfg0.N, win0_0.index t = ![(grid0.coords t 1).val, 0] ∧ win0_1.index t = ![0, 0 + (grid0.coords t 0).val] ∧ win0_2.index t = ![(grid0.coords t 1).val, (grid0.coords t 0).val] :=
  (by decide +kernel : ∀ t : Fin grid0.N, _)

/-- The weights' buffer at a point, read off the argument. -/
theorem weights_at (c : Dev nD) (t : Fin cfg0.N) (k : Fin 4096) (b : Fin 1024) (h : 0 + (grid0.coords t 0).val * 1024 + b.val < 34976) :
    X0_1 m c t (ix2 k b) = m ((c : Thread nD τ).loc main_arg1) (ix3 0 k ⟨0 + (grid0.coords t 0).val * 1024 + b.val, h⟩) := by
  unfold X0_1 Pipeline.Window.fill
  rw [dif_pos (moved0_1 t (ix2 k b))]
  blk_simp [iblk, idx t]
  entry_read
  pointwise
  blk_ext [idx t]

/-- What the body stores at block index `y` of point `t` is the reference's value at the array index `y` sits at. -/
theorem point (c : Dev nD) (t : Fin cfg0.N) (y : S640x1024.Idx) : k0_pay1 (iblk m c 0 t) (X0_1 m c t) y
    = REF (m ((c : Thread nD τ).loc main_arg0)) (m ((c : Thread nD τ).loc main_arg1)) (((cfg0.win 2).blk t).view.emb y) := by
  pointwise [k0_pay1, REF]
  refine Finset.sum_congr rfl fun k _ => ?_
  congr 1
  · blk_ext [iblk, V, idx t]
  · refine (weights_at m c t k (y 1) ?_).trans ?_
    · have := (grid0.coords t 0).isLt
      have := (y 1).isLt
      change (grid0.coords t 0).val < 16 at *
      change (y 1).val < 1024 at *
      omega
    · blk_ext [idx t]

/-- The blocks written back cover the result. -/
theorem covers : (cfg0.win 2).Covers := by decide +kernel

/-- The body leaves its one product. -/
theorem outs (c : Dev nD) (t : Fin cfg0.N) (y : S640x1024.Idx) : outsAt0 m c t y = k0_pay1 (iblk m c 0 t) (X0_1 m c t) y := by
  unfold outsAt0
  frame_out

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ covers fun t _ y => ?_
  blk_simp
  rw [after0_2]
  exact (outs m c t y).trans (point m c t y)

end Cert.HgIdeal.Product

end
-- ==== Proof.QpValue.lean ====
module

public import proofs.«01_k».proof.Proof.Gen.QpIdeal.Value
public import proofs.«01_k».proof.Proof.Gen.QpRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QpIdeal.Product

open Cert.QpIdeal Cert.QpIdeal.Gen

variable (m : (ℓ : Loc nD τ sig) → Buf (Elt Ideal) ℓ)

/-- What the reference computes of the rows `X` and the weights `W`: the product with every column, the queries' taken. -/
abbrev REF (X : FVec Ideal S8320x4096 .bf16) (W : FVec Ideal S1x4096x34976 .f32) : FVec Ideal S8320x4096 .f32 :=
  extractStridedSlice Cert.QpRefIdeal.S8320x4096 ![0, 16384] (Host.dotGeneral Cert.QpRefIdeal.dot_S8320x4096_S4096x34976_S8320x34976_1_0_0_1_n_n none (extf .f32 X Cert.QpRefIdeal.Gen.bitsLt_bf16_f32) (shapeCast _ W Cert.QpRefIdeal.Gen.shapeCasts_S1x4096x34976_S4096x34976)) Cert.QpRefIdeal.Gen.slices_S8320x34976_S8320x4096_0_16384

/-- The windows' block indices at every point. -/
theorem idx : ∀ t : Fin cfg0.N, win0_0.index t = ![(grid0.coords t 1).val, 0] ∧ win0_1.index t = ![0, 16 + (grid0.coords t 0).val] ∧ win0_2.index t = ![(grid0.coords t 1).val, (grid0.coords t 0).val] :=
  (by decide +kernel : ∀ t : Fin grid0.N, _)

/-- The weights' buffer at a point, read off the argument. -/
theorem weights_at (c : Dev nD) (t : Fin cfg0.N) (k : Fin 4096) (b : Fin 1024) (h : 16384 + (grid0.coords t 0).val * 1024 + b.val < 34976) :
    X0_1 m c t (ix2 k b) = m ((c : Thread nD τ).loc main_arg1) (ix3 0 k ⟨16384 + (grid0.coords t 0).val * 1024 + b.val, h⟩) := by
  unfold X0_1 Pipeline.Window.fill
  rw [dif_pos (moved0_1 t (ix2 k b))]
  blk_simp [iblk, idx t]
  entry_read
  pointwise
  blk_ext [idx t]

/-- What the body stores at block index `y` of point `t` is the reference's value at the array index `y` sits at. -/
theorem point (c : Dev nD) (t : Fin cfg0.N) (y : S640x1024.Idx) : k0_pay1 (iblk m c 0 t) (X0_1 m c t) y
    = REF (m ((c : Thread nD τ).loc main_arg0)) (m ((c : Thread nD τ).loc main_arg1)) (((cfg0.win 2).blk t).view.emb y) := by
  pointwise [k0_pay1, REF]
  refine Finset.sum_congr rfl fun k _ => ?_
  congr 1
  · blk_ext [iblk, V, idx t]
  · refine (weights_at m c t k (y 1) ?_).trans ?_
    · have := (grid0.coords t 0).isLt
      have := (y 1).isLt
      change (grid0.coords t 0).val < 4 at *
      change (y 1).val < 1024 at *
      omega
    · blk_ext [idx t]

/-- The blocks written back cover the result. -/
theorem covers : (cfg0.win 2).Covers := by decide +kernel

/-- The body leaves its one product. -/
theorem outs (c : Dev nD) (t : Fin cfg0.N) (y : S640x1024.Idx) : outsAt0 m c t y = k0_pay1 (iblk m c 0 t) (X0_1 m c t) y := by
  unfold outsAt0
  frame_out

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ covers fun t _ y => ?_
  blk_simp
  rw [after0_2]
  exact (outs m c t y).trans (point m c t y)

end Cert.QpIdeal.Product

end
-- ==== Proof.KvValue.lean ====
module

public import proofs.«01_k».proof.Proof.Gen.KvIdeal.Value
public import proofs.«01_k».proof.Proof.Gen.KvRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KvIdeal.Product

open Cert.KvIdeal Cert.KvIdeal.Gen

variable (m : (ℓ : Loc nD τ sig) → Buf (Elt Ideal) ℓ)

/-- What the reference computes of the rows `X` and the weights `W`: the product with every column, the keys' and values' taken. -/
abbrev REF (X : FVec Ideal S8320x4096 .bf16) (W : FVec Ideal S1x4096x34976 .f32) : FVec Ideal S8320x2048 .f32 :=
  extractStridedSlice Cert.KvRefIdeal.S8320x2048 ![0, 20480] (Host.dotGeneral Cert.KvRefIdeal.dot_S8320x4096_S4096x34976_S8320x34976_1_0_0_1_n_n none (extf .f32 X Cert.KvRefIdeal.Gen.bitsLt_bf16_f32) (shapeCast _ W Cert.KvRefIdeal.Gen.shapeCasts_S1x4096x34976_S4096x34976)) Cert.KvRefIdeal.Gen.slices_S8320x34976_S8320x2048_0_20480

/-- The windows' block indices at every point. -/
theorem idx : ∀ t : Fin cfg0.N, win0_0.index t = ![(grid0.coords t 1).val, 0] ∧ win0_1.index t = ![0, 20 + (grid0.coords t 0).val] ∧ win0_2.index t = ![(grid0.coords t 1).val, (grid0.coords t 0).val] :=
  (by decide +kernel : ∀ t : Fin grid0.N, _)

/-- The weights' buffer at a point, read off the argument. -/
theorem weights_at (c : Dev nD) (t : Fin cfg0.N) (k : Fin 4096) (b : Fin 1024) (h : 20480 + (grid0.coords t 0).val * 1024 + b.val < 34976) :
    X0_1 m c t (ix2 k b) = m ((c : Thread nD τ).loc main_arg1) (ix3 0 k ⟨20480 + (grid0.coords t 0).val * 1024 + b.val, h⟩) := by
  unfold X0_1 Pipeline.Window.fill
  rw [dif_pos (moved0_1 t (ix2 k b))]
  blk_simp [iblk, idx t]
  entry_read
  pointwise
  blk_ext [idx t]

/-- What the body stores at block index `y` of point `t` is the reference's value at the array index `y` sits at. -/
theorem point (c : Dev nD) (t : Fin cfg0.N) (y : S640x1024.Idx) : k0_pay1 (iblk m c 0 t) (X0_1 m c t) y
    = REF (m ((c : Thread nD τ).loc main_arg0)) (m ((c : Thread nD τ).loc main_arg1)) (((cfg0.win 2).blk t).view.emb y) := by
  pointwise [k0_pay1, REF]
  refine Finset.sum_congr rfl fun k _ => ?_
  congr 1
  · blk_ext [iblk, V, idx t]
  · refine (weights_at m c t k (y 1) ?_).trans ?_
    · have := (grid0.coords t 0).isLt
      have := (y 1).isLt
      change (grid0.coords t 0).val < 2 at *
      change (y 1).val < 1024 at *
      omega
    · blk_ext [idx t]

/-- The blocks written back cover the result. -/
theorem covers : (cfg0.win 2).Covers := by decide +kernel

/-- The body leaves its one product. -/
theorem outs (c : Dev nD) (t : Fin cfg0.N) (y : S640x1024.Idx) : outsAt0 m c t y = k0_pay1 (iblk m c 0 t) (X0_1 m c t) y := by
  unfold outsAt0
  frame_out

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ covers fun t _ y => ?_
  blk_simp
  rw [after0_2]
  exact (outs m c t y).trans (point m c t y)

end Cert.KvIdeal.Product

end
-- ==== Proof.QiValue.lean ====
module

public import proofs.«01_k».proof.Proof.Gen.QiIdeal.Value
public import proofs.«01_k».proof.Proof.Gen.QiRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QiIdeal.Product

open Cert.QiIdeal Cert.QiIdeal.Gen

variable (m : (ℓ : Loc nD τ sig) → Buf (Elt Ideal) ℓ)

/-- What the reference computes of the rows `X` and the weights `W`: the product with every column, the indexer queries' taken, heads first inside each block of 128 rows. -/
abbrev REF (X : FVec Ideal S8320x4096 .bf16) (W : FVec Ideal S1x4096x34976 .f32) : FVec Ideal S65x32x128x128 .f32 :=
  transpose Cert.QiRefIdeal.S65x32x128x128 [0, 2, 1, 3] (shapeCast Cert.QiRefIdeal.S65x128x32x128 (extractStridedSlice Cert.QiRefIdeal.S8320x4096 ![0, 22528] (Host.dotGeneral Cert.QiRefIdeal.dot_S8320x4096_S4096x34976_S8320x34976_1_0_0_1_n_n none (extf .f32 X Cert.QiRefIdeal.Gen.bitsLt_bf16_f32) (shapeCast _ W Cert.QiRefIdeal.Gen.shapeCasts_S1x4096x34976_S4096x34976)) Cert.QiRefIdeal.Gen.slices_S8320x34976_S8320x4096_0_22528) Cert.QiRefIdeal.Gen.shapeCasts_S8320x4096_S65x128x32x128) Cert.QiRefIdeal.Gen.transposes_S65x128x32x128_S65x32x128x128_0_2_1_3

/-- The windows' block indices at every point. -/
theorem idx : ∀ t : Fin cfg0.N, win0_0.index t = ![(grid0.coords t 1).val, 0] ∧ win0_1.index t = ![0, 22 + (grid0.coords t 0).val] ∧ win0_2.index t = ![(grid0.coords t 1).val, (grid0.coords t 0).val, 0, 0] :=
  (by decide +kernel : ∀ t : Fin grid0.N, _)

/-- The weights' buffer at a point, read off the argument. -/
theorem weights_at (c : Dev nD) (t : Fin cfg0.N) (k : Fin 4096) (b : Fin 1024) (h : 22528 + (grid0.coords t 0).val * 1024 + b.val < 34976) :
    X0_1 m c t (ix2 k b) = m ((c : Thread nD τ).loc main_arg1) (ix3 0 k ⟨22528 + (grid0.coords t 0).val * 1024 + b.val, h⟩) := by
  unfold X0_1 Pipeline.Window.fill
  rw [dif_pos (moved0_1 t (ix2 k b))]
  blk_simp [iblk, idx t]
  entry_read
  pointwise
  blk_ext [idx t]

set_option maxHeartbeats 2000000 in
/-- The product at one row and column, read at the place of the reference's array that the column's head and the row sit at. -/
theorem core (c : Dev nD) (t : Fin cfg0.N) (i : S640x1024.Idx) (j : S65x32x128x128.Idx)
    (h0 : (j 0 : ℕ) * 128 + (j 2 : ℕ) = (grid0.coords t 1).val * 640 + (i 0 : ℕ)) (h1 : (j 1 : ℕ) * 128 + (j 3 : ℕ) = (grid0.coords t 0).val * 1024 + (i 1 : ℕ)) :
    k0_pay3 (iblk m c 0 t) (X0_1 m c t) i = REF (m ((c : Thread nD τ).loc main_arg0)) (m ((c : Thread nD τ).loc main_arg1)) j := by
  pointwise [k0_pay3, REF]
  refine Finset.sum_congr rfl fun k _ => ?_
  congr 1
  · blk_ext [iblk, V, idx t]
  · refine (weights_at m c t k (i 1) ?_).trans ?_
    · have := (grid0.coords t 0).isLt
      have := (i 1).isLt
      change (grid0.coords t 0).val < 4 at *
      change (i 1).val < 1024 at *
      omega
    · blk_ext [idx t]

set_option maxHeartbeats 8000000 in
/-- What the body's forty stores leave at a block index: one entry of the product. -/
theorem outs (c : Dev nD) (t : Fin cfg0.N) (y : S5x8x128x128.Idx) (i : S640x1024.Idx)
    (hi0 : (i 0 : ℕ) = 128 * (y 0 : ℕ) + (y 2 : ℕ)) (hi1 : (i 1 : ℕ) = 128 * (y 1 : ℕ) + (y 3 : ℕ)) :
    outsAt0 m c t y = k0_pay3 (F := Ideal) (iblk m c 0 t) (X0_1 m c t) i := by
  unfold outsAt0
  frame_out
  generalize X0_1 m c t = x1
  generalize iblk m c 0 t = x0
  canon_tiles x h
  all_goals (open_payloads; pointwise; blk_ext)

/-- What the body leaves at block index `y` of point `t` is the reference's value at the array index `y` sits at. -/
theorem point (c : Dev nD) (t : Fin cfg0.N) (y : S5x8x128x128.Idx) : outsAt0 m c t y
    = REF (m ((c : Thread nD τ).loc main_arg0)) (m ((c : Thread nD τ).loc main_arg1)) (((cfg0.win 2).blk t).view.emb y) := by
  obtain_idx i : S640x1024 := [128 * (y 0 : ℕ) + (y 2 : ℕ), 128 * (y 1 : ℕ) + (y 3 : ℕ)] with hi
  refine (outs m c t y i hi0 hi1).trans (core m c t i _ ?_ ?_)
  all_goals (blk_simp [idx t] <;> try omega)

/-- The blocks written back cover the result. -/
theorem covers : (cfg0.win 2).Covers := by decide +kernel

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ covers fun t _ y => ?_
  blk_simp
  rw [after0_2]
  exact point m c t y

end Cert.QiIdeal.Product

end
-- ==== Proof.SmValue.lean ====
module

public import proofs.«01_k».proof.Proof.Gen.SmIdeal.Value
public import proofs.«01_k».proof.Proof.Gen.SmRefIdeal.Run
public import Idealize.ShloMosaic.Lib.Pipeline.ValueKit
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.SmIdeal.Product

open Cert.SmIdeal Cert.SmIdeal.Gen

variable (m : (ℓ : Loc nD τ sig) → Buf (Elt Ideal) ℓ)

/-- What the reference computes of the rows `X` and the weights `W`: the product with every column, the indexer's small columns taken and padded with zeros. -/
abbrev REF (X : FVec Ideal S8320x4096 .bf16) (W : FVec Ideal S1x4096x34976 .f32) : FVec Ideal S8320x256 .f32 :=
  pad Cert.SmRefIdeal.S8320x256 ![0, 0] ![0, 96] ![0, 0] (extractStridedSlice Cert.SmRefIdeal.S8320x160 ![0, 26624] (Host.dotGeneral Cert.SmRefIdeal.dot_S8320x4096_S4096x34976_S8320x34976_1_0_0_1_n_n none (extf .f32 X Cert.SmRefIdeal.Gen.bitsLt_bf16_f32) (shapeCast _ W Cert.SmRefIdeal.Gen.shapeCasts_S1x4096x34976_S4096x34976)) Cert.SmRefIdeal.Gen.slices_S8320x34976_S8320x160_0_26624) (sitofp .f32 (constantI Cert.SmRefIdeal.S_ 32 0#32)) Cert.SmRefIdeal.Gen.pads_S8320x160_S8320x256_000_0960 Cert.SmRefIdeal.Gen.h_S_

/-- The windows' block indices at every point. -/
theorem idx : ∀ t : Fin cfg0.N, win0_0.index t = ![(grid0.coords t 1).val, 0] ∧ win0_1.index t = ![0, 0] ∧ win0_2.index t = ![(grid0.coords t 1).val, 0] :=
  (by decide +kernel : ∀ t : Fin grid0.N, _)

/-- An update at `j` writes the column `j` of the padded weights. -/
theorem lands (idx : IVec S1 32) (hidx : ∀ i, idx i = 0#32) (j : S4096x160.Idx) :
    scatter_S4096x256_S1_S4096x160_01_n_1_0.resultIdx? j idx = some (ix2 (j 0) ⟨(j 1).val, lt_trans (show (j 1).val < 160 from (j 1).isLt) (by decide)⟩) := by
  have hs : ∀ a, scatter_S4096x256_S1_S4096x160_01_n_1_0.start j idx a = 0 := fun a => by
    unfold ScatterDims.start
    split
    · rw [hidx]; rfl
    · rfl
  have hj : (j 1).val < 160 := (j 1).isLt
  have hw : ∀ a : Fin 2, scatter_S4096x256_S1_S4096x160_01_n_1_0.window j a = (j a).val := fun a => by
    match a with
    | ⟨0, _⟩ => rfl
    | ⟨1, _⟩ => rfl
  have hb : ∀ a : Fin 2, (j a).val < S4096x256.size a := fun a => by
    match a with
    | ⟨0, _⟩ => exact (j 0).isLt
    | ⟨1, _⟩ => exact lt_trans hj (show 160 < 256 by decide)
  unfold ScatterDims.resultIdx?
  rw [dif_pos fun a => by rw [hs, hw]; exact ⟨by omega, by have := hb a; omega⟩]
  refine congrArg some (funext fun a => Fin.ext ?_)
  show (scatter_S4096x256_S1_S4096x160_01_n_1_0.start j idx a + scatter_S4096x256_S1_S4096x160_01_n_1_0.window j a).toNat = _
  rw [hs, hw]
  match a with
  | ⟨0, _⟩ => simp
  | ⟨1, _⟩ => simp

/-- The padded weights read at a column that the indexer has. -/
theorem padded_in (x : FVec Ideal S4096x256 .bf16) (idx : IVec S1 32) (u : FVec Ideal S4096x160 .bf16)
    (hidx : ∀ i, idx i = 0#32) (k : Fin 4096) (b : Fin 256) (h : b.val < 160) :
    Host.scatter scatter_S4096x256_S1_S4096x160_01_n_1_0 (fun _ b => b) x idx u (ix2 k b) = u (ix2 k ⟨b.val, h⟩) := by
  refine Routing.scatter_set_hit _ x idx u (ix2 k b) _ (fun j hj => ?_) (ix2 k ⟨b.val, h⟩) ?_
  · rw [lands idx hidx] at hj
    have e := Option.some.inj hj
    have e0 := congrFun e 0
    have e1 := congrArg Fin.val (congrFun e 1)
    refine congrArg u (funext fun a => ?_)
    match a with
    | ⟨0, _⟩ => exact e0
    | ⟨1, _⟩ => exact Fin.ext e1
  · rw [lands idx hidx]; rfl

/-- The padded weights read at a column that it has not. -/
theorem padded_out (x : FVec Ideal S4096x256 .bf16) (idx : IVec S1 32) (u : FVec Ideal S4096x160 .bf16)
    (hidx : ∀ i, idx i = 0#32) (k : Fin 4096) (b : Fin 256) (h : ¬ b.val < 160) :
    Host.scatter scatter_S4096x256_S1_S4096x160_01_n_1_0 (fun _ b => b) x idx u (ix2 k b) = x (ix2 k b) := by
  refine Routing.scatter_set_miss _ x idx u (ix2 k b) fun j hj => h ?_
  rw [lands idx hidx] at hj
  have e1 := congrArg Fin.val (congrFun (Option.some.inj hj) 1)
  have := (j 1).isLt
  exact lt_of_eq_of_lt e1.symm this

/-- A column of the padded weights, from the argument: the indexer's columns, zeros beyond. -/
def column (W : FVec Ideal S1x4096x34976 .f32) (k : Fin 4096) (b : Fin 256) : EReal :=
  if h : b.val < 160 then W (ix3 0 k ⟨26624 + b.val, by omega⟩) else 0

/-- The padded weights, as the host leaves them. -/
abbrev PADDED (W : FVec Ideal S1x4096x34976 .f32) : FVec Ideal S4096x256 .bf16 :=
  Host.scatter scatter_S4096x256_S1_S4096x160_01_n_1_0 (fun _ b => b) (broadcastInDim S4096x256 ![] bcast_S_S4096x256 (constant (F := Ideal) S_ .bf16 0x0000#16))
    (broadcastInDim S1 ![] bcast_S_S1 (constantI S_ 32 0#32))
    (extractStridedSlice S4096x160 ![0, 26624] (truncf .bf16 (shapeCast S4096x34976 W shapeCasts_S1x4096x34976_S4096x34976) bitsLt_bf16_f32) slices_S4096x34976_S4096x160_0_26624)

/-- The padded weights at an index. -/
theorem padded_at (W : FVec Ideal S1x4096x34976 .f32) (k : Fin 4096) (b : Fin 256) : PADDED W (ix2 k b) = column W k b := by
  unfold column
  split
  · next h =>
    refine (padded_in _ _ _ (fun _ => rfl) k b h).trans ?_
    pointwise
  · next h =>
    refine (padded_out _ _ _ (fun _ => rfl) k b h).trans ?_
    pointwise

/-- What the region finds of the padded weights. -/
theorem entry (c : Dev nD) : V m c main_v5 = PADDED (m ((c : Thread nD τ).loc main_arg1)) := by
  unfold V
  after_results
  try rfl

/-- The one block of the padded weights is the whole of it. -/
theorem whole (t : Fin cfg0.N) (k : Fin 4096) (b : Fin 256) : ((win0_1.blk t).view.emb (ix2 k b) : S4096x256.Idx) = ix2 k b := by
  blk_ext [idx t]

/-- The weights' buffer at a point. -/
theorem weights_at (c : Dev nD) (t : Fin cfg0.N) (k : Fin 4096) (b : Fin 256) :
    iblk m c 1 t (ix2 k b) = column (m ((c : Thread nD τ).loc main_arg1)) k b := by
  refine Eq.trans ?_ (padded_at _ k b)
  rw [← entry m c]
  exact congrArg (V m c main_v5) (whole t k b)

/-- The product with the padded weights at an index is the reference's. -/
theorem ref_at (X : FVec Ideal S8320x4096 .bf16) (W : FVec Ideal S1x4096x34976 .f32) (i : S8320x256.Idx) (b : Fin 256) (hb : (i 1 : ℕ) = b) :
    (∑ k : Fin 4096, X (ix2 (i 0) k) * column W k b) = REF X W i := by
  pointwise [REF]
  unfold column
  by_cases h : b.val < 160
  · rw [dif_pos (show ((i 1 : ℕ)) < 160 by omega)]
    refine Fin.sum_fin_congr fun k => ?_
    rw [dif_pos h]
    refine congrArg (fun z => W (ix3 0 k z)) (Fin.ext ?_) |> congrArg (X (ix2 (i 0) k) * ·)
    show 26624 + b.val = 26624 + (i 1 : ℕ)
    omega
  · rw [dif_neg (show ¬ ((i 1 : ℕ)) < 160 by omega)]
    refine Eq.trans (Finset.sum_eq_zero (M := EReal) fun k _ => ?_) ?_
    · rw [dif_neg h]
      exact mul_zero (_ : EReal)
    · show (0 : EReal) = (((0#32 : BitVec 32).toInt : ℝ) : EReal)
      simp

/-- What the body stores at block index `y` of point `t` is the reference's value at the array index `y` sits at. -/
theorem point (c : Dev nD) (t : Fin cfg0.N) (y : S640x256.Idx) : k0_pay1 (iblk m c 0 t) (iblk m c 1 t) y
    = REF (m ((c : Thread nD τ).loc main_arg0)) (m ((c : Thread nD τ).loc main_arg1)) (((cfg0.win 2).blk t).view.emb y) := by
  refine Eq.trans ?_ (ref_at _ _ (((cfg0.win 2).blk t).view.emb y) (y 1) (by blk_simp [idx t]))
  pointwise [k0_pay1]
  refine Finset.sum_congr rfl fun k _ => ?_
  refine congrArg₂ (· * ·) ?_ (weights_at m c t k (y 1))
  blk_ext [iblk, V, idx t]

/-- The blocks written back cover the result. -/
theorem covers : (cfg0.win 2).Covers := by decide +kernel

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ covers fun t _ y => ?_
  blk_simp
  rw [after0_2]
  unfold out0_2
  frame_out
  exact point m c t y

end Cert.SmIdeal.Product

end
-- ==== Proof.GaValue.lean ====
module

public import proofs.«01_k».proof.Proof.Gen.GaIdeal.Value
public import proofs.«01_k».proof.Proof.Gen.GaRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GaIdeal.Product

open Cert.GaIdeal Cert.GaIdeal.Gen

variable (m : (ℓ : Loc nD τ sig) → Buf (Elt Ideal) ℓ)

/-- What the reference computes of the rows `X` and the weights `W`: the product with every column, the gates' taken. -/
abbrev REF (X : FVec Ideal S8320x4096 .bf16) (W : FVec Ideal S1x4096x34976 .f32) : FVec Ideal S8320x8192 .f32 :=
  extractStridedSlice Cert.GaRefIdeal.S8320x8192 ![0, 26784] (Host.dotGeneral Cert.GaRefIdeal.dot_S8320x4096_S4096x34976_S8320x34976_1_0_0_1_n_n none (extf .f32 X Cert.GaRefIdeal.Gen.bitsLt_bf16_f32) (shapeCast _ W Cert.GaRefIdeal.Gen.shapeCasts_S1x4096x34976_S4096x34976)) Cert.GaRefIdeal.Gen.slices_S8320x34976_S8320x8192_0_26784

/-- The windows' block indices at every point. -/
theorem idx : ∀ t : Fin cfg0.N, win0_0.index t = ![(grid0.coords t 1).val, 0] ∧ win0_1.index t = ![0, (grid0.coords t 0).val] ∧ win0_2.index t = ![(grid0.coords t 1).val, (grid0.coords t 0).val] :=
  (by decide +kernel : ∀ t : Fin grid0.N, _)

/-- What the body stores at block index `y` of point `t` is the reference's value at the array index `y` sits at. -/
theorem point (c : Dev nD) (t : Fin cfg0.N) (y : S640x1024.Idx) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun k _ => ?_
  congr 1
  · blk_ext [iblk, V, idx t]
  · blk_simp [iblk, idx t]
    entry_read
    pointwise
    blk_ext [idx t]

/-- The blocks written back cover the result. -/
theorem covers : (cfg0.win 2).Covers := by decide +kernel

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ covers fun t _ y => ?_
  blk_simp
  rw [after0_2]
  unfold out0_2
  frame_out
  exact point m c t y

end Cert.GaIdeal.Product

end
-- ==== Proof.OpValue.lean ====
module

public import proofs.«01_k».proof.Proof.Gen.OpIdeal.Value
public import proofs.«01_k».proof.Proof.Gen.OpRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OpIdeal.Product

open Cert.OpIdeal Cert.OpIdeal.Gen

variable (m : (ℓ : Loc nD τ sig) → Buf (Elt Ideal) ℓ)

/-- What the reference computes of the rows `X`, the weights `W` and the residual `R`. -/
abbrev REF (X : FVec Ideal S8320x4096 .bf16) (W : FVec Ideal S1x4096x4096 .f32) (R : FVec Ideal S8320x4096 .f32) : FVec Ideal S8320x4096 .f32 :=
  addf R (Host.dotGeneral Cert.OpRefIdeal.dot_S8320x4096_S4096x4096_S8320x4096_1_0_0_1_n_n none (extf .f32 X Cert.OpRefIdeal.Gen.bitsLt_bf16_f32) (shapeCast _ W Cert.OpRefIdeal.Gen.shapeCasts_S1x4096x4096_S4096x4096))

/-- The windows' block indices at every point. -/
theorem idx : ∀ t : Fin cfg0.N, win0_0.index t = ![(grid0.coords t 1).val, 0] ∧ win0_1.index t = ![0, (grid0.coords t 0).val] ∧ win0_2.index t = ![(grid0.coords t 1).val, (grid0.coords t 0).val] ∧ win0_3.index t = ![(grid0.coords t 1).val, (grid0.coords t 0).val] :=
  (by decide +kernel : ∀ t : Fin grid0.N, _)

/-- What the body stores at block index `y` of point `t` is the reference's value at the array index `y` sits at. -/
theorem point (c : Dev nD) (t : Fin cfg0.N) (y : S640x1024.Idx) : k0_pay1 (iblk m c 2 t) (iblk m c 0 t) (iblk m c 1 t) y
    = REF (m ((c : Thread nD τ).loc main_arg0)) (m ((c : Thread nD τ).loc main_arg1)) (m ((c : Thread nD τ).loc main_arg2)) (((cfg0.win 3).blk t).view.emb y) := by
  pointwise [k0_pay1, REF]
  refine congrArg₂ (· + ·) (by blk_ext [iblk, V, idx t]) (Finset.sum_congr rfl fun k _ => ?_)
  congr 1
  · blk_ext [iblk, V, idx t]
  · blk_simp [iblk, idx t]
    entry_read
    pointwise
    blk_ext [idx t]

/-- The blocks written back cover the result. -/
theorem covers : (cfg0.win 3).Covers := by decide +kernel

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ covers fun t _ y => ?_
  blk_simp
  rw [after0_3]
  unfold out0_3
  frame_out
  exact point m c t y

end Cert.OpIdeal.Product

end
-- ==== Proof.Frame.lean ====
module

public import Idealize.ShloMosaic.Lib.Pipeline.TableIdle
public import Idealize.ShloMosaic.Lib.Claim
public import proofs.«01_k».proof.Proof.Body
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Hgrn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's last axis has one block, so the body's first condition (its sequence's first block) holds at every point. -/
theorem first_all : ∀ t : Fin grid0.N, Scalar.cmpi .ne (Scalar.extui (Scalar.cmpi .eq (BitVec.ofNat 32 ((grid0.coords t) 2).val) 0#32) : BitVec 32) 0#32 = 1#1 := by
  decide +kernel

/-- So does its last one (its sequence's last block). -/
theorem last_all : ∀ t : Fin grid0.N, k0_cond4 (grid0.coords t) = 1#1 := by
  decide +kernel

/-- The body's run at point `t`, the inputs' buffers at their blocks. -/
abbrev runAt (c : Dev nD) (t : Fin cfg0.N) :=
  run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep (iblk m c 6 t)) ((st0_7 t).view.rep (iblk m c 7 t)) ((st0_8 t).view.rep (iblk m c 8 t)) ((st0_9 t).view.rep (iblk m c 9 t)) (first_all t) (last_all t)

/-- The read-out block the body leaves at point `t`. -/
def outO (c : Dev nD) (t : Fin cfg0.N) : Vec F S16x1024 .f32 := View.canon (runAt m c t).1.1

/-- The state block the body leaves at point `t`. -/
def outS (c : Dev nD) (t : Fin cfg0.N) : Vec F S1x8x128x128 .f32 := View.canon (runAt m c t).1.2

/-- The eight column blocks stored cover the read-out block, -/
theorem cover_O (c : Dev nD) (t : Fin cfg0.N) : ∀ y : S16x1024.Idx, ∃ p ∈ (runAt m c t).1.1, y ∈ p.1.set :=
  View.cover_of_tiledL _ S16x128.size (by sl_kernel_rfl)

/-- and the eight heads' states the state block. -/
theorem cover_S (c : Dev nD) (t : Fin cfg0.N) : ∀ y : S1x8x128x128.Idx, ∃ p ∈ (runAt m c t).1.2, y ∈ p.1.set :=
  View.cover_of_tiledL _ S1x1x128x128.size (by sl_kernel_rfl)

/-- The proof data of the pipeline on core `c`: the arrays as the region finds them; after the body at point `t` each input's
    buffer at its block, the outputs' at what the run leaves; each input window holds its share of its array (four of them
    stage the same one). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outO m c t
    | ⟨11, _⟩ => outS m c t
    | ⟨_ + 12, h⟩ => absurd h (Nat.not_lt.2 (Nat.le_add_left _ _))
  Φ _ := Pipeline.ΦA spec0 c
  q w := Pipeline.shareOf spec0 w
  owed _ := 0

/-- The arrays of the proof data are the region's. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outO m c t := by dsimp only [dats]
theorem after0_11 (c : Dev nD) (t : Fin cfg0.N) : (dats m 0 c).after 11 t = outS m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- A memref's elements at contents that are a covered run of writes are the memref owned at what the writes leave. -/
theorem owns_of_pt (c : Dev nD) {S : Shape} {e : EltTy} (M : Memref sig .tc .vmem S e) (f : BufTy.Contents (Elt F) M.view.ty)
    (L : List (View.Piece (Elt F) S e)) (h : ∀ y, ∃ p ∈ L, y ∈ p.1.set) :
    pt c M (M.view.writes (Elt F) f L) ⊢ (owns (c : Thread nD τ) M fullShare (View.canon L) : sProp 𝕄) := by
  unfold owns
  iintro H
  iexists _; isplitr
  swap; · iexact H
  ipureintro
  exact View.read_writes_eq_canon _ _ _ h

/-- A memref owned at anything is its elements at some contents. -/
theorem pt_of_owns (c : Dev nD) {S : Shape} {e : EltTy} (M : Memref sig .tc .vmem S e) (d : S.Idx → Elt F e) :
    (owns (c : Thread nD τ) M fullShare d : sProp 𝕄) ⊢ ∃ f, pt c M f := by
  unfold owns
  iintro ⟨%f, -, H⟩
  iexists f; iexact H

/-- A whole buffer at some contents is the memref of the whole at those, both ways. -/
theorem pt_whole (c : Dev nD) (b : Ref sig .tc) (f : Buf (Elt F) ((c : Thread nD τ).loc b)) :
    (((Memref.whole b).view.loc (c : Thread nD τ)) ↦[(Memref.whole b).view.set]{fullShare} f : sProp 𝕄) = (((c : Thread nD τ).loc b) ↦{fullShare} f) := by
  rw [show (Memref.whole b).view.set = Finset.univ from View.set_whole b]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11]
  unfold Pipeline.ΦA
  rw [scopedRest0_eq]
  iintro ⟨⟨⟨⟨%f15, H15⟩, ⟨%f16, H16⟩, ⟨%f17, H17⟩, ⟨%f18, H18⟩, ⟨%f19, H19⟩, ⟨%f20, H20⟩⟩, Hp⟩, Ho, ⟨%d0, H3⟩, ⟨%d1, H4⟩, ⟨%d2, H5⟩, ⟨%d3, H6⟩, ⟨%d4, H7⟩, ⟨%d5, H8⟩, ⟨%d6, H9⟩, ⟨%d7, H10⟩, ⟨%d8, H11⟩, ⟨%d9, H12⟩, ⟨%d10, H13⟩, ⟨%d11, H14⟩⟩
  ihave H3 := (rep_of_owns (c : Thread nD τ) (st0_0 t) fullShare (iblk m c 0 t)) $$ H3
  ihave H4 := (rep_of_owns (c : Thread nD τ) (st0_1 t) fullShare (iblk m c 1 t)) $$ H4
  ihave H5 := (rep_of_owns (c : Thread nD τ) (st0_2 t) fullShare (iblk m c 2 t)) $$ H5
  ihave H6 := (rep_of_owns (c : Thread nD τ) (st0_3 t) fullShare (iblk m c 3 t)) $$ H6
  ihave H7 := (rep_of_owns (c : Thread nD τ) (st0_4 t) fullShare (iblk m c 4 t)) $$ H7
  ihave H8 := (rep_of_owns (c : Thread nD τ) (st0_5 t) fullShare (iblk m c 5 t)) $$ H8
  ihave H9 := (rep_of_owns (c : Thread nD τ) (st0_6 t) fullShare (iblk m c 6 t)) $$ H9
  ihave H10 := (rep_of_owns (c : Thread nD τ) (st0_7 t) fullShare (iblk m c 7 t)) $$ H10
  ihave H11 := (rep_of_owns (c : Thread nD τ) (st0_8 t) fullShare (iblk m c 8 t)) $$ H11
  ihave H12 := (rep_of_owns (c : Thread nD τ) (st0_9 t) fullShare (iblk m c 9 t)) $$ H12
  ihave H13 := (pt_of_owns c (st0_10 t) _) $$ H13
  icases H13 with ⟨%f13, H13⟩
  ihave H14 := (pt_of_owns c (st0_11 t) _) $$ H14
  icases H14 with ⟨%f14, H14⟩
  ihave H15 := (Entails.of_eq (pt_whole c cc0_scratch0 f15).symm) $$ H15
  ihave H16 := (Entails.of_eq (pt_whole c cc0_scratch1 f16).symm) $$ H16
  ihave H17 := (Entails.of_eq (pt_whole c cc0_scratch2 f17).symm) $$ H17
  ihave H18 := (Entails.of_eq (pt_whole c cc0_scratch3 f18).symm) $$ H18
  ihave H19 := (Entails.of_eq (pt_whole c cc0_scratch4 f19).symm) $$ H19
  ihave H20 := (Entails.of_eq (pt_whole c cc0_scratch5 f20).symm) $$ H20
  iapply ((runAt m c t).2 f13 f14 f15 f16 f17 f18 f19 f20 _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H3, H4, H5, H6, H7, H8, H9, H10, H11, H12, H13, H14, ⟨%g15, H15⟩, ⟨%g16, H16⟩, ⟨%g17, H17⟩, ⟨%g18, H18⟩, ⟨%g19, H19⟩, ⟨%g20, H20⟩⟩
  isplitl [H15 H16 H17 H18 H19 H20 Hp]
  · isplitr [Hp]; swap; · iexact Hp
    isplitl [H15]; · iexists g15; iapply (Entails.of_eq (pt_whole c cc0_scratch0 g15)); iexact H15
    isplitl [H16]; · iexists g16; iapply (Entails.of_eq (pt_whole c cc0_scratch1 g16)); iexact H16
    isplitl [H17]; · iexists g17; iapply (Entails.of_eq (pt_whole c cc0_scratch2 g17)); iexact H17
    isplitl [H18]; · iexists g18; iapply (Entails.of_eq (pt_whole c cc0_scratch3 g18)); iexact H18
    isplitl [H19]; · iexists g19; iapply (Entails.of_eq (pt_whole c cc0_scratch4 g19)); iexact H19
    iexists g20; iapply (Entails.of_eq (pt_whole c cc0_scratch5 g20)); iexact H20
  isplitl [Ho]; · iexact Ho
  isplitl [H3]; · iapply (owns_of_rep (c : Thread nD τ) (st0_0 t) fullShare (iblk m c 0 t)); iexact H3
  isplitl [H4]; · iapply (owns_of_rep (c : Thread nD τ) (st0_1 t) fullShare (iblk m c 1 t)); iexact H4
  isplitl [H5]; · iapply (owns_of_rep (c : Thread nD τ) (st0_2 t) fullShare (iblk m c 2 t)); iexact H5
  isplitl [H6]; · iapply (owns_of_rep (c : Thread nD τ) (st0_3 t) fullShare (iblk m c 3 t)); iexact H6
  isplitl [H7]; · iapply (owns_of_rep (c : Thread nD τ) (st0_4 t) fullShare (iblk m c 4 t)); iexact H7
  isplitl [H8]; · iapply (owns_of_rep (c : Thread nD τ) (st0_5 t) fullShare (iblk m c 5 t)); iexact H8
  isplitl [H9]; · iapply (owns_of_rep (c : Thread nD τ) (st0_6 t) fullShare (iblk m c 6 t)); iexact H9
  isplitl [H10]; · iapply (owns_of_rep (c : Thread nD τ) (st0_7 t) fullShare (iblk m c 7 t)); iexact H10
  isplitl [H11]; · iapply (owns_of_rep (c : Thread nD τ) (st0_8 t) fullShare (iblk m c 8 t)); iexact H11
  isplitl [H12]; · iapply (owns_of_rep (c : Thread nD τ) (st0_9 t) fullShare (iblk m c 9 t)); iexact H12
  isplitl [H13]; · iapply (owns_of_pt c (st0_10 t) f13 (runAt m c t).1.1 (cover_O m c t)); iexact H13
  iapply (owns_of_pt c (st0_11 t) f14 (runAt m c t).1.2 (cover_S m c t)); iexact H14

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

attribute [irreducible] outO outS

/-- The state's window is idle at no point: the body's last condition holds at every one. -/
theorem idle_11 : ∀ t : Fin grid0.N, idle0 11 (grid0.coords t) = false := by
  decide +kernel

/-- The pipeline's body obligation, at every point. -/
theorem body_obligation (c : Dev nD) : BodyObligation (dats (F := F) m 0 c) (defs₀ (F := F)) Variants.none () Set.univ := fun t => by
  rw [bigSep_W0, bigSep_W0, defs₀_row]
  have e : (cfg0.idle 11 (cfg0.grid.coords t)) = false := idle_11 t
  rw [e]
  exact triple_restated (sound_body m c t) rfl .rfl fun _ => .rfl

set_option backward.isDefEq.respectTransparency.types false in
/-- The launch: every execution terminates with the pipeline's arrays at what the proof data says, every other buffer as
    the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every execution terminates, the arguments unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hgrn
-- ==== Proof.StateBody.lean ====
module

public import proofs.«01_k».proof.Proof.Frame
public import Idealize.ShloMosaic.Lib.Pipeline.ValueKit
public import Idealize.ShloMosaic.PureOps.Ideal
public import Idealize.ShloMosaic.Lib.Pipeline.ReadBack

@[expose] public section

set_option maxRecDepth 16384

noncomputable section

namespace Cert.KernelIdeal.State

open Cert.KernelIdeal Cert.KernelIdeal.Gen Cert.KernelIdeal.Hgrn
open Idealize.ShloMosaic Idealize.ShloMosaic.TcCoe Idealize.ShloMosaic.Tactic
open Idealize.SL Idealize.SL.Sem

/-- A head's new state (value by key), from the prefix table, its lower bound, its gates, its values and its old state. -/
def update (cm : Vec Ideal S32x16 .bf16) (lb : Vec Ideal S1x128 .f32) (zf zi : Vec Ideal S16x128 .f32) (st : Vec Ideal S1x128x128 .f32) : FVec Ideal S1x128x128 .f32 :=
  k0_pay204 (k0_pay74 cm (k0_pay66 lb zf)) (k0_pay77 cm (k0_pay66 lb zf) (k0_pay67 lb zf)) (k0_pay78 zi) (k0_pay200 st)

/-- A head's new state (key by value), from its old one. -/
def piece (cm : Vec Ideal S32x16 .bf16) (lb : Vec Ideal S1x128 .f32) (zf zi : Vec Ideal S16x128 .f32) (st : Vec Ideal S1x1x128x128 .f32) : FVec Ideal S1x1x128x128 .f32 :=
  k0_pay5 (update cm lb zf zi (k0_pay61 st))

/-- A head's columns of a row of the block. -/
def row (x : Vec Ideal S1x1024 .f32) (h : Fin 8) : Vec Ideal S1x128 .f32 :=
  fun j => x (ix2 ⟨(j 0).val, (j 0).isLt⟩ ⟨128 * h.val + (j 1).val, by have := h.isLt; have : (j 1).val < 128 := (j 1).isLt; omega⟩)

/-- A head's columns of the block. -/
def cols (x : Vec Ideal S16x1024 .f32) (h : Fin 8) : Vec Ideal S16x128 .f32 :=
  fun j => x (ix2 ⟨(j 0).val, (j 0).isLt⟩ ⟨128 * h.val + (j 1).val, by have := h.isLt; have : (j 1).val < 128 := (j 1).isLt; omega⟩)

/-- A head's state of the block. -/
def plane (x : Vec Ideal S1x8x128x128 .f32) (h : Fin 8) : Vec Ideal S1x1x128x128 .f32 :=
  fun j => x (ix4 0 h ⟨(j 2).val, (j 2).isLt⟩ ⟨(j 3).val, (j 3).isLt⟩)

section Heads

variable (arg4 arg5 : Memref sig Kind.tc Space.vmem S16x1024 EltTy.f32) (arg7 : Memref sig Kind.tc Space.vmem S1x1024 EltTy.f32) (arg9 : Memref sig Kind.tc Space.vmem S32x16 EltTy.bf16) (arg12 : Memref sig Kind.tc Space.vmem S1x8x128x128 EltTy.f32) (arg15 : Memref sig Kind.tc Space.vmem S8x128x128 EltTy.f32)
variable (X4 : BufTy.Contents (Elt Ideal) arg4.view.ty) (X5 : BufTy.Contents (Elt Ideal) arg5.view.ty) (X7 : BufTy.Contents (Elt Ideal) arg7.view.ty) (X9 : BufTy.Contents (Elt Ideal) arg9.view.ty) (X12 : BufTy.Contents (Elt Ideal) arg12.view.ty)

/-- What head 7's update finds of its state: the block's. -/
theorem before7 : run.sl.v874 (F := Ideal) arg4 arg5 arg7 arg9 arg12 arg15 X4 X5 X7 X9 X12 = k0_pay61 (arg12.view.readAt (Elt Ideal) (Rect.unit (s := S1x8x128x128) ![0, 7, 0, 0] S1x1x128x128.size (by decide)).toLoadRect X12) := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

/-- What head 7's update leaves. -/
theorem after7 : run.sl.v959 (F := Ideal) arg4 arg5 arg7 arg9 arg12 arg15 X4 X5 X7 X9 X12 = update (arg9.view.readAt (Elt Ideal) (Rect.unit (s := S32x16) ![0, 0] S32x16.size (by decide)).toLoadRect X9) (arg7.view.readAt (Elt Ideal) (Rect.unit (s := S1x1024) ![0, 896] S1x128.size (by decide)).toLoadRect X7) (arg4.view.readAt (Elt Ideal) (Rect.unit (s := S16x1024) ![0, 896] S16x128.size (by decide)).toLoadRect X4) (arg5.view.readAt (Elt Ideal) (Rect.unit (s := S16x1024) ![0, 896] S16x128.size (by decide)).toLoadRect X5) (k0_pay61 (arg12.view.readAt (Elt Ideal) (Rect.unit (s := S1x8x128x128) ![0, 7, 0, 0] S1x1x128x128.size (by decide)).toLoadRect X12)) := by
  refine (View.readCov_cons_toLoadRect _ _ _ _).trans ?_
  refine Eq.trans (b := update (arg9.view.readAt (Elt Ideal) (Rect.unit (s := S32x16) ![0, 0] S32x16.size (by decide)).toLoadRect X9) (arg7.view.readAt (Elt Ideal) (Rect.unit (s := S1x1024) ![0, 896] S1x128.size (by decide)).toLoadRect X7) (arg4.view.readAt (Elt Ideal) (Rect.unit (s := S16x1024) ![0, 896] S16x128.size (by decide)).toLoadRect X4) (arg5.view.readAt (Elt Ideal) (Rect.unit (s := S16x1024) ![0, 896] S16x128.size (by decide)).toLoadRect X5) (run.sl.v874 (F := Ideal) arg4 arg5 arg7 arg9 arg12 arg15 X4 X5 X7 X9 X12)) ?_ (congrArg (update (arg9.view.readAt (Elt Ideal) (Rect.unit (s := S32x16) ![0, 0] S32x16.size (by decide)).toLoadRect X9) (arg7.view.readAt (Elt Ideal) (Rect.unit (s := S1x1024) ![0, 896] S1x128.size (by decide)).toLoadRect X7) (arg4.view.readAt (Elt Ideal) (Rect.unit (s := S16x1024) ![0, 896] S16x128.size (by decide)).toLoadRect X4) (arg5.view.readAt (Elt Ideal) (Rect.unit (s := S16x1024) ![0, 896] S16x128.size (by decide)).toLoadRect X5)) (before7 arg4 arg5 arg7 arg9 arg12 arg15 X4 X5 X7 X9 X12))
  rfl

/-- What head 6's update finds of its state: the block's. -/
theorem before6 : run.sl.v830 (F := Ideal) arg4 arg5 arg7 arg9 arg12 arg15 X4 X5 X7 X9 X12 = k0_pay61 (arg12.view.readAt (Elt Ideal) (Rect.unit (s := S1x8x128x128) ![0, 6, 0, 0] S1x1x128x128.size (by decide)).toLoadRect X12) := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

/-- What head 6's update leaves. -/
theorem after6 : run.sl.v953 (F := Ideal) arg4 arg5 arg7 arg9 arg12 arg15 X4 X5 X7 X9 X12 = update (arg9.view.readAt (Elt Ideal) (Rect.unit (s := S32x16) ![0, 0] S32x16.size (by decide)).toLoadRect X9) (arg7.view.readAt (Elt Ideal) (Rect.unit (s := S1x1024) ![0, 768] S1x128.size (by decide)).toLoadRect X7) (arg4.view.readAt (Elt Ideal) (Rect.unit (s := S16x1024) ![0, 768] S16x128.size (by decide)).toLoadRect X4) (arg5.view.readAt (Elt Ideal) (Rect.unit (s := S16x1024) ![0, 768] S16x128.size (by decide)).toLoadRect X5) (k0_pay61 (arg12.view.readAt (Elt Ideal) (Rect.unit (s := S1x8x128x128) ![0, 6, 0, 0] S1x1x128x128.size (by decide)).toLoadRect X12)) := by
  refine (View.readCov_skip _ _ _ _ _ (by decide)).trans ?_
  refine (View.readCov_cons_toLoadRect _ _ _ _).trans ?_
  refine Eq.trans (b := update (arg9.view.readAt (Elt Ideal) (Rect.unit (s := S32x16) ![0, 0] S32x16.size (by decide)).toLoadRect X9) (arg7.view.readAt (Elt Ideal) (Rect.unit (s := S1x1024) ![0, 768] S1x128.size (by decide)).toLoadRect X7) (arg4.view.readAt (Elt Ideal) (Rect.unit (s := S16x1024) ![0, 768] S16x128.size (by decide)).toLoadRect X4) (arg5.view.readAt (Elt Ideal) (Rect.unit (s := S16x1024) ![0, 768] S16x128.size (by decide)).toLoadRect X5) (run.sl.v830 (F := Ideal) arg4 arg5 arg7 arg9 arg12 arg15 X4 X5 X7 X9 X12)) ?_ (congrArg (update (arg9.view.readAt (Elt Ideal) (Rect.unit (s := S32x16) ![0, 0] S32x16.size (by decide)).toLoadRect X9) (arg7.view.readAt (Elt Ideal) (Rect.unit (s := S1x1024) ![0, 768] S1x128.size (by decide)).toLoadRect X7) (arg4.view.readAt (Elt Ideal) (Rect.unit (s := S16x1024) ![0, 768] S16x128.size (by decide)).toLoadRect X4) (arg5.view.readAt (Elt Ideal) (Rect.unit (s := S16x1024) ![0, 768] S16x128.size (by decide)).toLoadRect X5)) (before6 arg4 arg5 arg7 arg9 arg12 arg15 X4 X5 X7 X9 X12))
  rfl

/-- What head 5's update finds of its state: the block's. -/
theorem before5 : run.sl.v786 (F := Ideal) arg4 arg5 arg7 arg9 arg12 arg15 X4 X5 X7 X9 X12 = k0_pay61 (arg12.view.readAt (Elt Ideal) (Rect.unit (s := S1x8x128x128) ![0, 5, 0, 0] S1x1x128x128.size (by decide)).toLoadRect X12) := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

/-- What head 5's update leaves. -/
theorem after5 : run.sl.v947 (F := Ideal) arg4 arg5 arg7 arg9 arg12 arg15 X4 X5 X7 X9 X12 = update (arg9.view.readAt (Elt Ideal) (Rect.unit (s := S32x16) ![0, 0] S32x16.size (by decide)).toLoadRect X9) (arg7.view.readAt (Elt Ideal) (Rect.unit (s := S1x1024) ![0, 640] S1x128.size (by decide)).toLoadRect X7) (arg4.view.readAt (Elt Ideal) (Rect.unit (s := S16x1024) ![0, 640] S16x128.size (by decide)).toLoadRect X4) (arg5.view.readAt (Elt Ideal) (Rect.unit (s := S16x1024) ![0, 640] S16x128.size (by decide)).toLoadRect X5) (k0_pay61 (arg12.view.readAt (Elt Ideal) (Rect.unit (s := S1x8x128x128) ![0, 5, 0, 0] S1x1x128x128.size (by decide)).toLoadRect X12)) := by
  refine (View.readCov_skip _ _ _ _ _ (by decide)).trans ?_
  refine (View.readCov_skip _ _ _ _ _ (by decide)).trans ?_
  refine (View.readCov_cons_toLoadRect _ _ _ _).trans ?_
  refine Eq.trans (b := update (arg9.view.readAt (Elt Ideal) (Rect.unit (s := S32x16) ![0, 0] S32x16.size (by decide)).toLoadRect X9) (arg7.view.readAt (Elt Ideal) (Rect.unit (s := S1x1024) ![0, 640] S1x128.size (by decide)).toLoadRect X7) (arg4.view.readAt (Elt Ideal) (Rect.unit (s := S16x1024) ![0, 640] S16x128.size (by decide)).toLoadRect X4) (arg5.view.readAt (Elt Ideal) (Rect.unit (s := S16x1024) ![0, 640] S16x128.size (by decide)).toLoadRect X5) (run.sl.v786 (F := Ideal) arg4 arg5 arg7 arg9 arg12 arg15 X4 X5 X7 X9 X12)) ?_ (congrArg (update (arg9.view.readAt (Elt Ideal) (Rect.unit (s := S32x16) ![0, 0] S32x16.size (by decide)).toLoadRect X9) (arg7.view.readAt (Elt Ideal) (Rect.unit (s := S1x1024) ![0, 640] S1x128.size (by decide)).toLoadRect X7) (arg4.view.readAt (Elt Ideal) (Rect.unit (s := S16x1024) ![0, 640] S16x128.size (by decide)).toLoadRect X4) (arg5.view.readAt (Elt Ideal) (Rect.unit (s := S16x1024) ![0, 640] S16x128.size (by decide)).toLoadRect X5)) (before5 arg4 arg5 arg7 arg9 arg12 arg15 X4 X5 X7 X9 X12))
  rfl

/-- What head 4's update finds of its state: the block's. -/
theorem before4 : run.sl.v742 (F := Ideal) arg4 arg5 arg7 arg9 arg12 arg15 X4 X5 X7 X9 X12 = k0_pay61 (arg12.view.readAt (Elt Ideal) (Rect.unit (s := S1x8x128x128) ![0, 4, 0, 0] S1x1x128x128.size (by decide)).toLoadRect X12) := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

/-- What head 4's update leaves. -/
theorem after4 : run.sl.v (F := Ideal) arg4 arg5 arg7 arg9 arg12 arg15 X4 X5 X7 X9 X12 = update (arg9.view.readAt (Elt Ideal) (Rect.unit (s := S32x16) ![0, 0] S32x16.size (by decide)).toLoadRect X9) (arg7.view.readAt (Elt Ideal) (Rect.unit (s := S1x1024) ![0, 512] S1x128.size (by decide)).toLoadRect X7) (arg4.view.readAt (Elt Ideal) (Rect.unit (s := S16x1024) ![0, 512] S16x128.size (by decide)).toLoadRect X4) (arg5.view.readAt (Elt Ideal) (Rect.unit (s := S16x1024) ![0, 512] S16x128.size (by decide)).toLoadRect X5) (k0_pay61 (arg12.view.readAt (Elt Ideal) (Rect.unit (s := S1x8x128x128) ![0, 4, 0, 0] S1x1x128x128.size (by decide)).toLoadRect X12)) := by
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  refine Eq.trans (b := update (arg9.view.readAt (Elt Ideal) (Rect.unit (s := S32x16) ![0, 0] S32x16.size (by decide)).toLoadRect X9) (arg7.view.readAt (Elt Ideal) (Rect.unit (s := S1x1024) ![0, 512] S1x128.size (by decide)).toLoadRect X7) (arg4.view.readAt (Elt Ideal) (Rect.unit (s := S16x1024) ![0, 512] S16x128.size (by decide)).toLoadRect X4) (arg5.view.readAt (Elt Ideal) (Rect.unit (s := S16x1024) ![0, 512] S16x128.size (by decide)).toLoadRect X5) (run.sl.v742 (F := Ideal) arg4 arg5 arg7 arg9 arg12 arg15 X4 X5 X7 X9 X12)) ?_ (congrArg (update (arg9.view.readAt (Elt Ideal) (Rect.unit (s := S32x16) ![0, 0] S32x16.size (by decide)).toLoadRect X9) (arg7.view.readAt (Elt Ideal) (Rect.unit (s := S1x1024) ![0, 512] S1x128.size (by decide)).toLoadRect X7) (arg4.view.readAt (Elt Ideal) (Rect.unit (s := S16x1024) ![0, 512] S16x128.size (by decide)).toLoadRect X4) (arg5.view.readAt (Elt Ideal) (Rect.unit (s := S16x1024) ![0, 512] S16x128.size (by decide)).toLoadRect X5)) (before4 arg4 arg5 arg7 arg9 arg12 arg15 X4 X5 X7 X9 X12))
  rfl

/-- What head 3's update finds of its state: the block's. -/
theorem before3 : run.sl.v698 (F := Ideal) arg4 arg5 arg7 arg9 arg12 arg15 X4 X5 X7 X9 X12 = k0_pay61 (arg12.view.readAt (Elt Ideal) (Rect.unit (s := S1x8x128x128) ![0, 3, 0, 0] S1x1x128x128.size (by decide)).toLoadRect X12) := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

/-- What head 3's update leaves. -/
theorem after3 : run.sl.v935 (F := Ideal) arg4 arg5 arg7 arg9 arg12 arg15 X4 X5 X7 X9 X12 = update (arg9.view.readAt (Elt Ideal) (Rect.unit (s := S32x16) ![0, 0] S32x16.size (by decide)).toLoadRect X9) (arg7.view.readAt (Elt Ideal) (Rect.unit (s := S1x1024) ![0, 384] S1x128.size (by decide)).toLoadRect X7) (arg4.view.readAt (Elt Ideal) (Rect.unit (s := S16x1024) ![0, 384] S16x128.size (by decide)).toLoadRect X4) (arg5.view.readAt (Elt Ideal) (Rect.unit (s := S16x1024) ![0, 384] S16x128.size (by decide)).toLoadRect X5) (k0_pay61 (arg12.view.readAt (Elt Ideal) (Rect.unit (s := S1x8x128x128) ![0, 3, 0, 0] S1x1x128x128.size (by decide)).toLoadRect X12)) := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  refine Eq.trans (b := update (arg9.view.readAt (Elt Ideal) (Rect.unit (s := S32x16) ![0, 0] S32x16.size (by decide)).toLoadRect X9) (arg7.view.readAt (Elt Ideal) (Rect.unit (s := S1x1024) ![0, 384] S1x128.size (by decide)).toLoadRect X7) (arg4.view.readAt (Elt Ideal) (Rect.unit (s := S16x1024) ![0, 384] S16x128.size (by decide)).toLoadRect X4) (arg5.view.readAt (Elt Ideal) (Rect.unit (s := S16x1024) ![0, 384] S16x128.size (by decide)).toLoadRect X5) (run.sl.v698 (F := Ideal) arg4 arg5 arg7 arg9 arg12 arg15 X4 X5 X7 X9 X12)) ?_ (congrArg (update (arg9.view.readAt (Elt Ideal) (Rect.unit (s := S32x16) ![0, 0] S32x16.size (by decide)).toLoadRect X9) (arg7.view.readAt (Elt Ideal) (Rect.unit (s := S1x1024) ![0, 384] S1x128.size (by decide)).toLoadRect X7) (arg4.view.readAt (Elt Ideal) (Rect.unit (s := S16x1024) ![0, 384] S16x128.size (by decide)).toLoadRect X4) (arg5.view.readAt (Elt Ideal) (Rect.unit (s := S16x1024) ![0, 384] S16x128.size (by decide)).toLoadRect X5)) (before3 arg4 arg5 arg7 arg9 arg12 arg15 X4 X5 X7 X9 X12))
  rfl

/-- What head 2's update finds of its state: the block's. -/
theorem before2 : run.sl.v654 (F := Ideal) arg4 arg5 arg7 arg9 arg12 arg15 X4 X5 X7 X9 X12 = k0_pay61 (arg12.view.readAt (Elt Ideal) (Rect.unit (s := S1x8x128x128) ![0, 2, 0, 0] S1x1x128x128.size (by decide)).toLoadRect X12) := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

/-- What head 2's update leaves. -/
theorem after2 : run.sl.v929 (F := Ideal) arg4 arg5 arg7 arg9 arg12 arg15 X4 X5 X7 X9 X12 = update (arg9.view.readAt (Elt Ideal) (Rect.unit (s := S32x16) ![0, 0] S32x16.size (by decide)).toLoadRect X9) (arg7.view.readAt (Elt Ideal) (Rect.unit (s := S1x1024) ![0, 256] S1x128.size (by decide)).toLoadRect X7) (arg4.view.readAt (Elt Ideal) (Rect.unit (s := S16x1024) ![0, 256] S16x128.size (by decide)).toLoadRect X4) (arg5.view.readAt (Elt Ideal) (Rect.unit (s := S16x1024) ![0, 256] S16x128.size (by decide)).toLoadRect X5) (k0_pay61 (arg12.view.readAt (Elt Ideal) (Rect.unit (s := S1x8x128x128) ![0, 2, 0, 0] S1x1x128x128.size (by decide)).toLoadRect X12)) := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  refine Eq.trans (b := update (arg9.view.readAt (Elt Ideal) (Rect.unit (s := S32x16) ![0, 0] S32x16.size (by decide)).toLoadRect X9) (arg7.view.readAt (Elt Ideal) (Rect.unit (s := S1x1024) ![0, 256] S1x128.size (by decide)).toLoadRect X7) (arg4.view.readAt (Elt Ideal) (Rect.unit (s := S16x1024) ![0, 256] S16x128.size (by decide)).toLoadRect X4) (arg5.view.readAt (Elt Ideal) (Rect.unit (s := S16x1024) ![0, 256] S16x128.size (by decide)).toLoadRect X5) (run.sl.v654 (F := Ideal) arg4 arg5 arg7 arg9 arg12 arg15 X4 X5 X7 X9 X12)) ?_ (congrArg (update (arg9.view.readAt (Elt Ideal) (Rect.unit (s := S32x16) ![0, 0] S32x16.size (by decide)).toLoadRect X9) (arg7.view.readAt (Elt Ideal) (Rect.unit (s := S1x1024) ![0, 256] S1x128.size (by decide)).toLoadRect X7) (arg4.view.readAt (Elt Ideal) (Rect.unit (s := S16x1024) ![0, 256] S16x128.size (by decide)).toLoadRect X4) (arg5.view.readAt (Elt Ideal) (Rect.unit (s := S16x1024) ![0, 256] S16x128.size (by decide)).toLoadRect X5)) (before2 arg4 arg5 arg7 arg9 arg12 arg15 X4 X5 X7 X9 X12))
  rfl

/-- What head 1's update finds of its state: the block's. -/
theorem before1 : run.sl.v610 (F := Ideal) arg4 arg5 arg7 arg9 arg12 arg15 X4 X5 X7 X9 X12 = k0_pay61 (arg12.view.readAt (Elt Ideal) (Rect.unit (s := S1x8x128x128) ![0, 1, 0, 0] S1x1x128x128.size (by decide)).toLoadRect X12) := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

/-- What head 1's update leaves. -/
theorem after1 : run.sl.v923 (F := Ideal) arg4 arg5 arg7 arg9 arg12 arg15 X4 X5 X7 X9 X12 = update (arg9.view.readAt (Elt Ideal) (Rect.unit (s := S32x16) ![0, 0] S32x16.size (by decide)).toLoadRect X9) (arg7.view.readAt (Elt Ideal) (Rect.unit (s := S1x1024) ![0, 128] S1x128.size (by decide)).toLoadRect X7) (arg4.view.readAt (Elt Ideal) (Rect.unit (s := S16x1024) ![0, 128] S16x128.size (by decide)).toLoadRect X4) (arg5.view.readAt (Elt Ideal) (Rect.unit (s := S16x1024) ![0, 128] S16x128.size (by decide)).toLoadRect X5) (k0_pay61 (arg12.view.readAt (Elt Ideal) (Rect.unit (s := S1x8x128x128) ![0, 1, 0, 0] S1x1x128x128.size (by decide)).toLoadRect X12)) := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  refine Eq.trans (b := update (arg9.view.readAt (Elt Ideal) (Rect.unit (s := S32x16) ![0, 0] S32x16.size (by decide)).toLoadRect X9) (arg7.view.readAt (Elt Ideal) (Rect.unit (s := S1x1024) ![0, 128] S1x128.size (by decide)).toLoadRect X7) (arg4.view.readAt (Elt Ideal) (Rect.unit (s := S16x1024) ![0, 128] S16x128.size (by decide)).toLoadRect X4) (arg5.view.readAt (Elt Ideal) (Rect.unit (s := S16x1024) ![0, 128] S16x128.size (by decide)).toLoadRect X5) (run.sl.v610 (F := Ideal) arg4 arg5 arg7 arg9 arg12 arg15 X4 X5 X7 X9 X12)) ?_ (congrArg (update (arg9.view.readAt (Elt Ideal) (Rect.unit (s := S32x16) ![0, 0] S32x16.size (by decide)).toLoadRect X9) (arg7.view.readAt (Elt Ideal) (Rect.unit (s := S1x1024) ![0, 128] S1x128.size (by decide)).toLoadRect X7) (arg4.view.readAt (Elt Ideal) (Rect.unit (s := S16x1024) ![0, 128] S16x128.size (by decide)).toLoadRect X4) (arg5.view.readAt (Elt Ideal) (Rect.unit (s := S16x1024) ![0, 128] S16x128.size (by decide)).toLoadRect X5)) (before1 arg4 arg5 arg7 arg9 arg12 arg15 X4 X5 X7 X9 X12))
  rfl

/-- What head 0's update leaves. -/
theorem after0 : run.sl.v917 (F := Ideal) arg4 arg5 arg7 arg9 arg12 arg15 X4 X5 X7 X9 X12 = update (arg9.view.readAt (Elt Ideal) (Rect.unit (s := S32x16) ![0, 0] S32x16.size (by decide)).toLoadRect X9) (arg7.view.readAt (Elt Ideal) (Rect.unit (s := S1x1024) ![0, 0] S1x128.size (by decide)).toLoadRect X7) (arg4.view.readAt (Elt Ideal) (Rect.unit (s := S16x1024) ![0, 0] S16x128.size (by decide)).toLoadRect X4) (arg5.view.readAt (Elt Ideal) (Rect.unit (s := S16x1024) ![0, 0] S16x128.size (by decide)).toLoadRect X5) (k0_pay61 (arg12.view.readAt (Elt Ideal) (Rect.unit (s := S1x8x128x128) ![0, 0, 0, 0] S1x1x128x128.size (by decide)).toLoadRect X12)) := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  refine congrArg (update (arg9.view.readAt (Elt Ideal) (Rect.unit (s := S32x16) ![0, 0] S32x16.size (by decide)).toLoadRect X9) (arg7.view.readAt (Elt Ideal) (Rect.unit (s := S1x1024) ![0, 0] S1x128.size (by decide)).toLoadRect X7) (arg4.view.readAt (Elt Ideal) (Rect.unit (s := S16x1024) ![0, 0] S16x128.size (by decide)).toLoadRect X4) (arg5.view.readAt (Elt Ideal) (Rect.unit (s := S16x1024) ![0, 0] S16x128.size (by decide)).toLoadRect X5)) (?_ : _ = k0_pay61 (arg12.view.readAt (Elt Ideal) (Rect.unit (s := S1x8x128x128) ![0, 0, 0, 0] S1x1x128x128.size (by decide)).toLoadRect X12))
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_cons_toLoadRect _ _ _ _

end Heads

end Cert.KernelIdeal.State

end
-- ==== Proof.StateTiles.lean ====
module

public import proofs.«01_k».proof.Proof.StateBody

@[expose] public section

set_option maxRecDepth 16384

noncomputable section

namespace Cert.KernelIdeal.State

open Cert.KernelIdeal Cert.KernelIdeal.Gen Cert.KernelIdeal.Hgrn
open Idealize.ShloMosaic Idealize.ShloMosaic.TcCoe Idealize.ShloMosaic.Tactic
open Idealize.SL Idealize.SL.Sem

section Heads

variable (arg4 arg5 : Memref sig Kind.tc Space.vmem S16x1024 EltTy.f32) (arg7 : Memref sig Kind.tc Space.vmem S1x1024 EltTy.f32) (arg9 : Memref sig Kind.tc Space.vmem S32x16 EltTy.bf16) (arg12 : Memref sig Kind.tc Space.vmem S1x8x128x128 EltTy.f32) (arg15 : Memref sig Kind.tc Space.vmem S8x128x128 EltTy.f32)
variable (x4 x5 : Vec Ideal S16x1024 .f32) (x7 : Vec Ideal S1x1024 .f32) (x9 : Vec Ideal S32x16 .bf16) (x12 : Vec Ideal S1x8x128x128 .f32)

/-- The prefix table, loaded. -/
theorem table_at : arg9.view.readAt (Elt Ideal) (Rect.unit (s := S32x16) ![0, 0] S32x16.size (by decide)).toLoadRect (arg9.view.rep x9) = x9 := by
  refine (View.readAt_rep _ _ _).trans (funext fun j => congrArg x9 (funext fun a => ?_))
  match a with
  | ⟨0, _⟩ => exact Fin.ext (show 0 + 1 * (j 0).val = (j 0).val by omega)
  | ⟨1, _⟩ => exact Fin.ext (show 0 + 1 * (j 1).val = (j 1).val by omega)

/-- Head 7's part of the block, loaded. -/
theorem row_at7 : arg7.view.readAt (Elt Ideal) (Rect.unit (s := S1x1024) ![0, 896] S1x128.size (by decide)).toLoadRect (arg7.view.rep x7) = row x7 7 := by
  refine (View.readAt_rep _ _ _).trans (funext fun j => congrArg x7 (funext fun a => ?_))
  match a with
  | ⟨0, _⟩ => exact Fin.ext (show 0 + 1 * (j 0).val = (j 0).val by omega)
  | ⟨1, _⟩ => exact Fin.ext (show 896 + 1 * (j 1).val = 128 * 7 + (j 1).val by omega)

/-- Head 7's part of the block, loaded. -/
theorem cols_at7 : arg4.view.readAt (Elt Ideal) (Rect.unit (s := S16x1024) ![0, 896] S16x128.size (by decide)).toLoadRect (arg4.view.rep x4) = cols x4 7 := by
  refine (View.readAt_rep _ _ _).trans (funext fun j => congrArg x4 (funext fun a => ?_))
  match a with
  | ⟨0, _⟩ => exact Fin.ext (show 0 + 1 * (j 0).val = (j 0).val by omega)
  | ⟨1, _⟩ => exact Fin.ext (show 896 + 1 * (j 1).val = 128 * 7 + (j 1).val by omega)

/-- Head 7's part of the block, loaded. -/
theorem plane_at7 : arg12.view.readAt (Elt Ideal) (Rect.unit (s := S1x8x128x128) ![0, 7, 0, 0] S1x1x128x128.size (by decide)).toLoadRect (arg12.view.rep x12) = plane x12 7 := by
  refine (View.readAt_rep _ _ _).trans (funext fun j => congrArg x12 (funext fun a => ?_))
  have j0 : (j 0).val < 1 := (j 0).isLt
  have j1 : (j 1).val < 1 := (j 1).isLt
  match a with
  | ⟨0, _⟩ => exact Fin.ext (show 0 + 1 * (j 0).val = 0 by omega)
  | ⟨1, _⟩ => exact Fin.ext (show 7 + 1 * (j 1).val = 7 by omega)
  | ⟨2, _⟩ => exact Fin.ext (show 0 + 1 * (j 2).val = (j 2).val by omega)
  | ⟨3, _⟩ => exact Fin.ext (show 0 + 1 * (j 3).val = (j 3).val by omega)

/-- What is stored of head 7's state. -/
theorem stored7 : k0_pay5 (run.sl.v959 (F := Ideal) arg4 arg5 arg7 arg9 arg12 arg15 (arg4.view.rep x4) (arg5.view.rep x5) (arg7.view.rep x7) (arg9.view.rep x9) (arg12.view.rep x12)) = piece x9 (row x7 7) (cols x4 7) (cols x5 7) (plane x12 7) := by
  refine (congrArg k0_pay5 (after7 arg4 arg5 arg7 arg9 arg12 arg15 (arg4.view.rep x4) (arg5.view.rep x5) (arg7.view.rep x7) (arg9.view.rep x9) (arg12.view.rep x12))).trans ?_
  rw [table_at arg9 x9, row_at7 arg7 x7, cols_at7 arg4 x4, cols_at7 arg5 x5, plane_at7 arg12 x12]
  rfl

/-- Head 6's part of the block, loaded. -/
theorem row_at6 : arg7.view.readAt (Elt Ideal) (Rect.unit (s := S1x1024) ![0, 768] S1x128.size (by decide)).toLoadRect (arg7.view.rep x7) = row x7 6 := by
  refine (View.readAt_rep _ _ _).trans (funext fun j => congrArg x7 (funext fun a => ?_))
  match a with
  | ⟨0, _⟩ => exact Fin.ext (show 0 + 1 * (j 0).val = (j 0).val by omega)
  | ⟨1, _⟩ => exact Fin.ext (show 768 + 1 * (j 1).val = 128 * 6 + (j 1).val by omega)

/-- Head 6's part of the block, loaded. -/
theorem cols_at6 : arg4.view.readAt (Elt Ideal) (Rect.unit (s := S16x1024) ![0, 768] S16x128.size (by decide)).toLoadRect (arg4.view.rep x4) = cols x4 6 := by
  refine (View.readAt_rep _ _ _).trans (funext fun j => congrArg x4 (funext fun a => ?_))
  match a with
  | ⟨0, _⟩ => exact Fin.ext (show 0 + 1 * (j 0).val = (j 0).val by omega)
  | ⟨1, _⟩ => exact Fin.ext (show 768 + 1 * (j 1).val = 128 * 6 + (j 1).val by omega)

/-- Head 6's part of the block, loaded. -/
theorem plane_at6 : arg12.view.readAt (Elt Ideal) (Rect.unit (s := S1x8x128x128) ![0, 6, 0, 0] S1x1x128x128.size (by decide)).toLoadRect (arg12.view.rep x12) = plane x12 6 := by
  refine (View.readAt_rep _ _ _).trans (funext fun j => congrArg x12 (funext fun a => ?_))
  have j0 : (j 0).val < 1 := (j 0).isLt
  have j1 : (j 1).val < 1 := (j 1).isLt
  match a with
  | ⟨0, _⟩ => exact Fin.ext (show 0 + 1 * (j 0).val = 0 by omega)
  | ⟨1, _⟩ => exact Fin.ext (show 6 + 1 * (j 1).val = 6 by omega)
  | ⟨2, _⟩ => exact Fin.ext (show 0 + 1 * (j 2).val = (j 2).val by omega)
  | ⟨3, _⟩ => exact Fin.ext (show 0 + 1 * (j 3).val = (j 3).val by omega)

/-- What is stored of head 6's state. -/
theorem stored6 : k0_pay4 (run.sl.v953 (F := Ideal) arg4 arg5 arg7 arg9 arg12 arg15 (arg4.view.rep x4) (arg5.view.rep x5) (arg7.view.rep x7) (arg9.view.rep x9) (arg12.view.rep x12)) = piece x9 (row x7 6) (cols x4 6) (cols x5 6) (plane x12 6) := by
  refine (congrArg k0_pay5 (after6 arg4 arg5 arg7 arg9 arg12 arg15 (arg4.view.rep x4) (arg5.view.rep x5) (arg7.view.rep x7) (arg9.view.rep x9) (arg12.view.rep x12))).trans ?_
  rw [table_at arg9 x9, row_at6 arg7 x7, cols_at6 arg4 x4, cols_at6 arg5 x5, plane_at6 arg12 x12]
  rfl

/-- Head 5's part of the block, loaded. -/
theorem row_at5 : arg7.view.readAt (Elt Ideal) (Rect.unit (s := S1x1024) ![0, 640] S1x128.size (by decide)).toLoadRect (arg7.view.rep x7) = row x7 5 := by
  refine (View.readAt_rep _ _ _).trans (funext fun j => congrArg x7 (funext fun a => ?_))
  match a with
  | ⟨0, _⟩ => exact Fin.ext (show 0 + 1 * (j 0).val = (j 0).val by omega)
  | ⟨1, _⟩ => exact Fin.ext (show 640 + 1 * (j 1).val = 128 * 5 + (j 1).val by omega)

/-- Head 5's part of the block, loaded. -/
theorem cols_at5 : arg4.view.readAt (Elt Ideal) (Rect.unit (s := S16x1024) ![0, 640] S16x128.size (by decide)).toLoadRect (arg4.view.rep x4) = cols x4 5 := by
  refine (View.readAt_rep _ _ _).trans (funext fun j => congrArg x4 (funext fun a => ?_))
  match a with
  | ⟨0, _⟩ => exact Fin.ext (show 0 + 1 * (j 0).val = (j 0).val by omega)
  | ⟨1, _⟩ => exact Fin.ext (show 640 + 1 * (j 1).val = 128 * 5 + (j 1).val by omega)

/-- Head 5's part of the block, loaded. -/
theorem plane_at5 : arg12.view.readAt (Elt Ideal) (Rect.unit (s := S1x8x128x128) ![0, 5, 0, 0] S1x1x128x128.size (by decide)).toLoadRect (arg12.view.rep x12) = plane x12 5 := by
  refine (View.readAt_rep _ _ _).trans (funext fun j => congrArg x12 (funext fun a => ?_))
  have j0 : (j 0).val < 1 := (j 0).isLt
  have j1 : (j 1).val < 1 := (j 1).isLt
  match a with
  | ⟨0, _⟩ => exact Fin.ext (show 0 + 1 * (j 0).val = 0 by omega)
  | ⟨1, _⟩ => exact Fin.ext (show 5 + 1 * (j 1).val = 5 by omega)
  | ⟨2, _⟩ => exact Fin.ext (show 0 + 1 * (j 2).val = (j 2).val by omega)
  | ⟨3, _⟩ => exact Fin.ext (show 0 + 1 * (j 3).val = (j 3).val by omega)

/-- What is stored of head 5's state. -/
theorem stored5 : k0_pay3 (run.sl.v947 (F := Ideal) arg4 arg5 arg7 arg9 arg12 arg15 (arg4.view.rep x4) (arg5.view.rep x5) (arg7.view.rep x7) (arg9.view.rep x9) (arg12.view.rep x12)) = piece x9 (row x7 5) (cols x4 5) (cols x5 5) (plane x12 5) := by
  refine (congrArg k0_pay5 (after5 arg4 arg5 arg7 arg9 arg12 arg15 (arg4.view.rep x4) (arg5.view.rep x5) (arg7.view.rep x7) (arg9.view.rep x9) (arg12.view.rep x12))).trans ?_
  rw [table_at arg9 x9, row_at5 arg7 x7, cols_at5 arg4 x4, cols_at5 arg5 x5, plane_at5 arg12 x12]
  rfl

/-- Head 4's part of the block, loaded. -/
theorem row_at4 : arg7.view.readAt (Elt Ideal) (Rect.unit (s := S1x1024) ![0, 512] S1x128.size (by decide)).toLoadRect (arg7.view.rep x7) = row x7 4 := by
  refine (View.readAt_rep _ _ _).trans (funext fun j => congrArg x7 (funext fun a => ?_))
  match a with
  | ⟨0, _⟩ => exact Fin.ext (show 0 + 1 * (j 0).val = (j 0).val by omega)
  | ⟨1, _⟩ => exact Fin.ext (show 512 + 1 * (j 1).val = 128 * 4 + (j 1).val by omega)

/-- Head 4's part of the block, loaded. -/
theorem cols_at4 : arg4.view.readAt (Elt Ideal) (Rect.unit (s := S16x1024) ![0, 512] S16x128.size (by decide)).toLoadRect (arg4.view.rep x4) = cols x4 4 := by
  refine (View.readAt_rep _ _ _).trans (funext fun j => congrArg x4 (funext fun a => ?_))
  match a with
  | ⟨0, _⟩ => exact Fin.ext (show 0 + 1 * (j 0).val = (j 0).val by omega)
  | ⟨1, _⟩ => exact Fin.ext (show 512 + 1 * (j 1).val = 128 * 4 + (j 1).val by omega)

/-- Head 4's part of the block, loaded. -/
theorem plane_at4 : arg12.view.readAt (Elt Ideal) (Rect.unit (s := S1x8x128x128) ![0, 4, 0, 0] S1x1x128x128.size (by decide)).toLoadRect (arg12.view.rep x12) = plane x12 4 := by
  refine (View.readAt_rep _ _ _).trans (funext fun j => congrArg x12 (funext fun a => ?_))
  have j0 : (j 0).val < 1 := (j 0).isLt
  have j1 : (j 1).val < 1 := (j 1).isLt
  match a with
  | ⟨0, _⟩ => exact Fin.ext (show 0 + 1 * (j 0).val = 0 by omega)
  | ⟨1, _⟩ => exact Fin.ext (show 4 + 1 * (j 1).val = 4 by omega)
  | ⟨2, _⟩ => exact Fin.ext (show 0 + 1 * (j 2).val = (j 2).val by omega)
  | ⟨3, _⟩ => exact Fin.ext (show 0 + 1 * (j 3).val = (j 3).val by omega)

/-- What is stored of head 4's state. -/
theorem stored4 : k0_pay2 (run.sl.v (F := Ideal) arg4 arg5 arg7 arg9 arg12 arg15 (arg4.view.rep x4) (arg5.view.rep x5) (arg7.view.rep x7) (arg9.view.rep x9) (arg12.view.rep x12)) = piece x9 (row x7 4) (cols x4 4) (cols x5 4) (plane x12 4) := by
  refine (congrArg k0_pay5 (after4 arg4 arg5 arg7 arg9 arg12 arg15 (arg4.view.rep x4) (arg5.view.rep x5) (arg7.view.rep x7) (arg9.view.rep x9) (arg12.view.rep x12))).trans ?_
  rw [table_at arg9 x9, row_at4 arg7 x7, cols_at4 arg4 x4, cols_at4 arg5 x5, plane_at4 arg12 x12]
  rfl

/-- Head 3's part of the block, loaded. -/
theorem row_at3 : arg7.view.readAt (Elt Ideal) (Rect.unit (s := S1x1024) ![0, 384] S1x128.size (by decide)).toLoadRect (arg7.view.rep x7) = row x7 3 := by
  refine (View.readAt_rep _ _ _).trans (funext fun j => congrArg x7 (funext fun a => ?_))
  match a with
  | ⟨0, _⟩ => exact Fin.ext (show 0 + 1 * (j 0).val = (j 0).val by omega)
  | ⟨1, _⟩ => exact Fin.ext (show 384 + 1 * (j 1).val = 128 * 3 + (j 1).val by omega)

/-- Head 3's part of the block, loaded. -/
theorem cols_at3 : arg4.view.readAt (Elt Ideal) (Rect.unit (s := S16x1024) ![0, 384] S16x128.size (by decide)).toLoadRect (arg4.view.rep x4) = cols x4 3 := by
  refine (View.readAt_rep _ _ _).trans (funext fun j => congrArg x4 (funext fun a => ?_))
  match a with
  | ⟨0, _⟩ => exact Fin.ext (show 0 + 1 * (j 0).val = (j 0).val by omega)
  | ⟨1, _⟩ => exact Fin.ext (show 384 + 1 * (j 1).val = 128 * 3 + (j 1).val by omega)

/-- Head 3's part of the block, loaded. -/
theorem plane_at3 : arg12.view.readAt (Elt Ideal) (Rect.unit (s := S1x8x128x128) ![0, 3, 0, 0] S1x1x128x128.size (by decide)).toLoadRect (arg12.view.rep x12) = plane x12 3 := by
  refine (View.readAt_rep _ _ _).trans (funext fun j => congrArg x12 (funext fun a => ?_))
  have j0 : (j 0).val < 1 := (j 0).isLt
  have j1 : (j 1).val < 1 := (j 1).isLt
  match a with
  | ⟨0, _⟩ => exact Fin.ext (show 0 + 1 * (j 0).val = 0 by omega)
  | ⟨1, _⟩ => exact Fin.ext (show 3 + 1 * (j 1).val = 3 by omega)
  | ⟨2, _⟩ => exact Fin.ext (show 0 + 1 * (j 2).val = (j 2).val by omega)
  | ⟨3, _⟩ => exact Fin.ext (show 0 + 1 * (j 3).val = (j 3).val by omega)

/-- What is stored of head 3's state. -/
theorem stored3 : (run.sl.v940_1 (F := Ideal) arg4 arg5 arg7 arg9 arg12 arg15 (arg4.view.rep x4) (arg5.view.rep x5) (arg7.view.rep x7) (arg9.view.rep x9) (arg12.view.rep x12)) = piece x9 (row x7 3) (cols x4 3) (cols x5 3) (plane x12 3) := by
  refine (congrArg k0_pay5 (after3 arg4 arg5 arg7 arg9 arg12 arg15 (arg4.view.rep x4) (arg5.view.rep x5) (arg7.view.rep x7) (arg9.view.rep x9) (arg12.view.rep x12))).trans ?_
  rw [table_at arg9 x9, row_at3 arg7 x7, cols_at3 arg4 x4, cols_at3 arg5 x5, plane_at3 arg12 x12]
  rfl

/-- Head 2's part of the block, loaded. -/
theorem row_at2 : arg7.view.readAt (Elt Ideal) (Rect.unit (s := S1x1024) ![0, 256] S1x128.size (by decide)).toLoadRect (arg7.view.rep x7) = row x7 2 := by
  refine (View.readAt_rep _ _ _).trans (funext fun j => congrArg x7 (funext fun a => ?_))
  match a with
  | ⟨0, _⟩ => exact Fin.ext (show 0 + 1 * (j 0).val = (j 0).val by omega)
  | ⟨1, _⟩ => exact Fin.ext (show 256 + 1 * (j 1).val = 128 * 2 + (j 1).val by omega)

/-- Head 2's part of the block, loaded. -/
theorem cols_at2 : arg4.view.readAt (Elt Ideal) (Rect.unit (s := S16x1024) ![0, 256] S16x128.size (by decide)).toLoadRect (arg4.view.rep x4) = cols x4 2 := by
  refine (View.readAt_rep _ _ _).trans (funext fun j => congrArg x4 (funext fun a => ?_))
  match a with
  | ⟨0, _⟩ => exact Fin.ext (show 0 + 1 * (j 0).val = (j 0).val by omega)
  | ⟨1, _⟩ => exact Fin.ext (show 256 + 1 * (j 1).val = 128 * 2 + (j 1).val by omega)

/-- Head 2's part of the block, loaded. -/
theorem plane_at2 : arg12.view.readAt (Elt Ideal) (Rect.unit (s := S1x8x128x128) ![0, 2, 0, 0] S1x1x128x128.size (by decide)).toLoadRect (arg12.view.rep x12) = plane x12 2 := by
  refine (View.readAt_rep _ _ _).trans (funext fun j => congrArg x12 (funext fun a => ?_))
  have j0 : (j 0).val < 1 := (j 0).isLt
  have j1 : (j 1).val < 1 := (j 1).isLt
  match a with
  | ⟨0, _⟩ => exact Fin.ext (show 0 + 1 * (j 0).val = 0 by omega)
  | ⟨1, _⟩ => exact Fin.ext (show 2 + 1 * (j 1).val = 2 by omega)
  | ⟨2, _⟩ => exact Fin.ext (show 0 + 1 * (j 2).val = (j 2).val by omega)
  | ⟨3, _⟩ => exact Fin.ext (show 0 + 1 * (j 3).val = (j 3).val by omega)

/-- What is stored of head 2's state. -/
theorem stored2 : (run.sl.v934_1 (F := Ideal) arg4 arg5 arg7 arg9 arg12 arg15 (arg4.view.rep x4) (arg5.view.rep x5) (arg7.view.rep x7) (arg9.view.rep x9) (arg12.view.rep x12)) = piece x9 (row x7 2) (cols x4 2) (cols x5 2) (plane x12 2) := by
  refine (congrArg k0_pay5 (after2 arg4 arg5 arg7 arg9 arg12 arg15 (arg4.view.rep x4) (arg5.view.rep x5) (arg7.view.rep x7) (arg9.view.rep x9) (arg12.view.rep x12))).trans ?_
  rw [table_at arg9 x9, row_at2 arg7 x7, cols_at2 arg4 x4, cols_at2 arg5 x5, plane_at2 arg12 x12]
  rfl

/-- Head 1's part of the block, loaded. -/
theorem row_at1 : arg7.view.readAt (Elt Ideal) (Rect.unit (s := S1x1024) ![0, 128] S1x128.size (by decide)).toLoadRect (arg7.view.rep x7) = row x7 1 := by
  refine (View.readAt_rep _ _ _).trans (funext fun j => congrArg x7 (funext fun a => ?_))
  match a with
  | ⟨0, _⟩ => exact Fin.ext (show 0 + 1 * (j 0).val = (j 0).val by omega)
  | ⟨1, _⟩ => exact Fin.ext (show 128 + 1 * (j 1).val = 128 * 1 + (j 1).val by omega)

/-- Head 1's part of the block, loaded. -/
theorem cols_at1 : arg4.view.readAt (Elt Ideal) (Rect.unit (s := S16x1024) ![0, 128] S16x128.size (by decide)).toLoadRect (arg4.view.rep x4) = cols x4 1 := by
  refine (View.readAt_rep _ _ _).trans (funext fun j => congrArg x4 (funext fun a => ?_))
  match a with
  | ⟨0, _⟩ => exact Fin.ext (show 0 + 1 * (j 0).val = (j 0).val by omega)
  | ⟨1, _⟩ => exact Fin.ext (show 128 + 1 * (j 1).val = 128 * 1 + (j 1).val by omega)

/-- Head 1's part of the block, loaded. -/
theorem plane_at1 : arg12.view.readAt (Elt Ideal) (Rect.unit (s := S1x8x128x128) ![0, 1, 0, 0] S1x1x128x128.size (by decide)).toLoadRect (arg12.view.rep x12) = plane x12 1 := by
  refine (View.readAt_rep _ _ _).trans (funext fun j => congrArg x12 (funext fun a => ?_))
  have j0 : (j 0).val < 1 := (j 0).isLt
  have j1 : (j 1).val < 1 := (j 1).isLt
  match a with
  | ⟨0, _⟩ => exact Fin.ext (show 0 + 1 * (j 0).val = 0 by omega)
  | ⟨1, _⟩ => exact Fin.ext (show 1 + 1 * (j 1).val = 1 by omega)
  | ⟨2, _⟩ => exact Fin.ext (show 0 + 1 * (j 2).val = (j 2).val by omega)
  | ⟨3, _⟩ => exact Fin.ext (show 0 + 1 * (j 3).val = (j 3).val by omega)

/-- What is stored of head 1's state. -/
theorem stored1 : (run.sl.v928_1 (F := Ideal) arg4 arg5 arg7 arg9 arg12 arg15 (arg4.view.rep x4) (arg5.view.rep x5) (arg7.view.rep x7) (arg9.view.rep x9) (arg12.view.rep x12)) = piece x9 (row x7 1) (cols x4 1) (cols x5 1) (plane x12 1) := by
  refine (congrArg k0_pay5 (after1 arg4 arg5 arg7 arg9 arg12 arg15 (arg4.view.rep x4) (arg5.view.rep x5) (arg7.view.rep x7) (arg9.view.rep x9) (arg12.view.rep x12))).trans ?_
  rw [table_at arg9 x9, row_at1 arg7 x7, cols_at1 arg4 x4, cols_at1 arg5 x5, plane_at1 arg12 x12]
  rfl

/-- Head 0's part of the block, loaded. -/
theorem row_at0 : arg7.view.readAt (Elt Ideal) (Rect.unit (s := S1x1024) ![0, 0] S1x128.size (by decide)).toLoadRect (arg7.view.rep x7) = row x7 0 := by
  refine (View.readAt_rep _ _ _).trans (funext fun j => congrArg x7 (funext fun a => ?_))
  match a with
  | ⟨0, _⟩ => exact Fin.ext (show 0 + 1 * (j 0).val = (j 0).val by omega)
  | ⟨1, _⟩ => exact Fin.ext (show 0 + 1 * (j 1).val = 128 * 0 + (j 1).val by omega)

/-- Head 0's part of the block, loaded. -/
theorem cols_at0 : arg4.view.readAt (Elt Ideal) (Rect.unit (s := S16x1024) ![0, 0] S16x128.size (by decide)).toLoadRect (arg4.view.rep x4) = cols x4 0 := by
  refine (View.readAt_rep _ _ _).trans (funext fun j => congrArg x4 (funext fun a => ?_))
  match a with
  | ⟨0, _⟩ => exact Fin.ext (show 0 + 1 * (j 0).val = (j 0).val by omega)
  | ⟨1, _⟩ => exact Fin.ext (show 0 + 1 * (j 1).val = 128 * 0 + (j 1).val by omega)

/-- Head 0's part of the block, loaded. -/
theorem plane_at0 : arg12.view.readAt (Elt Ideal) (Rect.unit (s := S1x8x128x128) ![0, 0, 0, 0] S1x1x128x128.size (by decide)).toLoadRect (arg12.view.rep x12) = plane x12 0 := by
  refine (View.readAt_rep _ _ _).trans (funext fun j => congrArg x12 (funext fun a => ?_))
  have j0 : (j 0).val < 1 := (j 0).isLt
  have j1 : (j 1).val < 1 := (j 1).isLt
  match a with
  | ⟨0, _⟩ => exact Fin.ext (show 0 + 1 * (j 0).val = 0 by omega)
  | ⟨1, _⟩ => exact Fin.ext (show 0 + 1 * (j 1).val = 0 by omega)
  | ⟨2, _⟩ => exact Fin.ext (show 0 + 1 * (j 2).val = (j 2).val by omega)
  | ⟨3, _⟩ => exact Fin.ext (show 0 + 1 * (j 3).val = (j 3).val by omega)

/-- What is stored of head 0's state. -/
theorem stored0 : (run.sl.v922_1 (F := Ideal) arg4 arg5 arg7 arg9 arg12 arg15 (arg4.view.rep x4) (arg5.view.rep x5) (arg7.view.rep x7) (arg9.view.rep x9) (arg12.view.rep x12)) = piece x9 (row x7 0) (cols x4 0) (cols x5 0) (plane x12 0) := by
  refine (congrArg k0_pay5 (after0 arg4 arg5 arg7 arg9 arg12 arg15 (arg4.view.rep x4) (arg5.view.rep x5) (arg7.view.rep x7) (arg9.view.rep x9) (arg12.view.rep x12))).trans ?_
  rw [table_at arg9 x9, row_at0 arg7 x7, cols_at0 arg4 x4, cols_at0 arg5 x5, plane_at0 arg12 x12]
  rfl

end Heads

variable (m : (ℓ : Loc nD τ sig) → Buf (Elt Ideal) ℓ)

/-- An index of a head's state. -/
theorem split (x : S1x1x128x128.Idx) (a b : Fin 128) (h2 : a.val = (x 2).val) (h3 : b.val = (x 3).val) : x = ix4 0 0 a b := by
  refine funext fun i => ?_
  match i with
  | ⟨0, _⟩ => exact Subsingleton.elim (α := Fin 1) _ _
  | ⟨1, _⟩ => exact Subsingleton.elim (α := Fin 1) _ _
  | ⟨2, _⟩ => exact Fin.ext h2.symm
  | ⟨3, _⟩ => exact Fin.ext h3.symm

/-- A head's piece at an index of it is the piece at the block's index, of the block's head. -/
theorem at_head (x4 x5 : Vec Ideal S16x1024 .f32) (x7 : Vec Ideal S1x1024 .f32) (x9 : Vec Ideal S32x16 .bf16) (x12 : Vec Ideal S1x8x128x128 .f32) (n : Fin 8) (y : S1x8x128x128.Idx) (x : S1x1x128x128.Idx)
    (h1 : (y 1).val = n.val) (h2 : (y 2).val = (x 2).val) (h3 : (y 3).val = (x 3).val) :
    piece x9 (row x7 n) (cols x4 n) (cols x5 n) (plane x12 n) x = piece x9 (row x7 (y 1)) (cols x4 (y 1)) (cols x5 (y 1)) (plane x12 (y 1)) (ix4 0 0 (y 2) (y 3)) := by
  have e : (y 1 : Fin 8) = n := Fin.ext h1
  rw [e, split x (y 2) (y 3) h2 h3]

attribute [local semireducible] outS

/-- The state block the body leaves, from the blocks it reads. -/
theorem block (c : Dev nD) (t : Fin cfg0.N) (y : S1x8x128x128.Idx) : outS m c t y
    = piece (iblk m c 6 t) (row (iblk m c 4 t) (y 1)) (cols (iblk m c 1 t) (y 1)) (cols (iblk m c 2 t) (y 1)) (plane (iblk m c 9 t) (y 1)) (ix4 0 0 (y 2) (y 3)) := by
  unfold outS runAt run
  dsimp only
  canon_tiles x h
  · exact (congrFun (stored7 (st0_1 t) (st0_2 t) (st0_4 t) (st0_6 t) (st0_9 t) (Memref.whole cc0_scratch0) _ _ _ _ _) x).trans (at_head _ _ _ _ _ 7 y x (by simp only [Fin.isValue, Fin.val_ofNat] ; omega) h2 h3)
  · exact (congrFun (stored6 (st0_1 t) (st0_2 t) (st0_4 t) (st0_6 t) (st0_9 t) (Memref.whole cc0_scratch0) _ _ _ _ _) x).trans (at_head _ _ _ _ _ 6 y x (by simp only [Fin.isValue, Fin.val_ofNat] ; omega) h2 h3)
  · exact (congrFun (stored5 (st0_1 t) (st0_2 t) (st0_4 t) (st0_6 t) (st0_9 t) (Memref.whole cc0_scratch0) _ _ _ _ _) x).trans (at_head _ _ _ _ _ 5 y x (by simp only [Fin.isValue, Fin.val_ofNat] ; omega) h2 h3)
  · exact (congrFun (stored4 (st0_1 t) (st0_2 t) (st0_4 t) (st0_6 t) (st0_9 t) (Memref.whole cc0_scratch0) _ _ _ _ _) x).trans (at_head _ _ _ _ _ 4 y x (by simp only [Fin.isValue, Fin.val_ofNat] ; omega) h2 h3)
  · exact (congrFun (stored3 (st0_1 t) (st0_2 t) (st0_4 t) (st0_6 t) (st0_9 t) (Memref.whole cc0_scratch0) _ _ _ _ _) x).trans (at_head _ _ _ _ _ 3 y x (by simp only [Fin.isValue, Fin.val_ofNat] ; omega) h2 h3)
  · exact (congrFun (stored2 (st0_1 t) (st0_2 t) (st0_4 t) (st0_6 t) (st0_9 t) (Memref.whole cc0_scratch0) _ _ _ _ _) x).trans (at_head _ _ _ _ _ 2 y x (by simp only [Fin.isValue, Fin.val_ofNat] ; omega) h2 h3)
  · exact (congrFun (stored1 (st0_1 t) (st0_2 t) (st0_4 t) (st0_6 t) (st0_9 t) (Memref.whole cc0_scratch0) _ _ _ _ _) x).trans (at_head _ _ _ _ _ 1 y x (by simp only [Fin.isValue, Fin.val_ofNat] ; omega) h2 h3)
  · exact (congrFun (stored0 (st0_1 t) (st0_2 t) (st0_4 t) (st0_6 t) (st0_9 t) (Memref.whole cc0_scratch0) _ _ _ _ _) x).trans (at_head _ _ _ _ _ 0 y x (by simp only [Fin.isValue, Fin.val_ofNat] ; omega) h2 h3)

end Cert.KernelIdeal.State

end
-- ==== Proof.StateMath.lean ====
module

public import proofs.«01_k».proof.Proof.StateBody
public import Idealize.ShloMosaic.Lib.Pipeline.ValueKit
public import Idealize.ShloMosaic.PureOps.Ideal

@[expose] public section

set_option maxRecDepth 16384

noncomputable section

namespace Cert.KernelIdeal.State

open Cert.KernelIdeal Cert.KernelIdeal.Gen Cert.KernelIdeal.Hgrn
open Idealize.ShloMosaic Idealize.ShloMosaic.TcCoe Idealize.ShloMosaic.Tactic
open Idealize.SL Idealize.SL.Sem

/-- A value below infinity is the sum of its rounding and the two remainders. -/
theorem three (x : EReal) (h : x ≠ ⊤) : x + (x - x) + (x - x - (x - x)) = x := by
  induction x using EReal.rec with
  | bot => simp
  | top => exact absurd rfl h
  | coe r =>
    rw [← EReal.coe_sub, sub_self, ← EReal.coe_sub, sub_self]
    simp

/-- The three parts of a row, counted once or not at all, make the row counted so. -/
theorem parts (c x : EReal) (hc : c = 1 ∨ c = 0) (h : x ≠ ⊤) : c * x + c * (x - x) + c * (x - x - (x - x)) = c * x := by
  rcases hc with rfl | rfl
  · simp only [one_mul]; exact three x h
  · simp

/-- The decay gate of a lower bound and a pre-activation. -/
def gate (l z : EReal) : EReal := l + (1 - l) * Ideal.div 1 (1 + Ideal.exp (0 - z))

/-- An exponential is not negative. -/
theorem exp_nonneg (x : EReal) : 0 ≤ Ideal.exp x := by
  induction x using EReal.rec with
  | bot => simp
  | top => simp
  | coe r => simp [Ideal.exp_coe]; exact (Real.exp_pos r).le

/-- The sigmoid is a real number. -/
theorem sigmoid_real (x : EReal) : ∃ r : ℝ, Ideal.div 1 (1 + Ideal.exp x) = (r : EReal) := by
  have h := exp_nonneg x
  generalize Ideal.exp x = e at h
  induction e using EReal.rec with
  | bot => simp at h
  | top =>
    have e : (1 : EReal) + ⊤ = ⊤ := by rw [← EReal.coe_one]; exact EReal.coe_add_top 1
    exact ⟨0, by rw [e, Ideal.div, if_neg EReal.top_ne_zero, EReal.inv_top, mul_zero]; rfl⟩
  | coe r =>
    have hr : 0 ≤ r := EReal.coe_nonneg.mp h
    refine ⟨1 * (1 + r)⁻¹, ?_⟩
    have e1 : (1 + (r : EReal)) = ((1 + r : ℝ) : EReal) := by simp
    have ne : ((1 + r : ℝ) : EReal) ≠ 0 := by
      intro h0
      have := EReal.coe_eq_zero.mp h0
      linarith
    rw [e1, Ideal.div, if_neg ne, EReal.coe_mul, EReal.coe_inv]
    simp

/-- A gate is below infinity where its lower bound is. -/
theorem gate_ne (l z : EReal) (h : l ≠ ⊤) : gate l z ≠ ⊤ := by
  unfold gate
  obtain ⟨r, hr⟩ := sigmoid_real (0 - z)
  rw [hr]
  induction l using EReal.rec with
  | bot => simp
  | top => exact absurd rfl h
  | coe q =>
    have e : ((q : EReal) + (1 - (q : EReal)) * (r : EReal)) = ((q + (1 - q) * r : ℝ) : EReal) := by
      rw [EReal.coe_add, EReal.coe_mul, EReal.coe_sub, EReal.coe_one]
    rw [e]
    exact EReal.coe_ne_top _

/-- So is its logarithm. -/
theorem log_ne (x : EReal) (h : x ≠ ⊤) : Ideal.log x ≠ ⊤ := by
  induction x using EReal.rec with
  | bot => simp
  | top => exact absurd rfl h
  | coe r =>
    rw [Ideal.log_coe]
    split
    · simp
    · exact EReal.coe_ne_top _

/-- The sum of the first entries of a row, up to `j`. -/
def upto (L : Fin 4 → EReal) (j : Fin 4) : EReal := ∑ k : Fin 4, if k ≤ j then L k else 0

/-- A row of the block that is a token's. -/
abbrev tok (s : Fin 4) : Fin 16 := ⟨s.val, by omega⟩

/-- The tokens' rows are the first four of the block. -/
theorem mask {α : Type} (s : Fin 16) (d : Fin 128) (p q : α) : Scalar.select (k0_pay69 (ix2 s d)) p q = if s.val < 4 then p else q := by
  have e : k0_pay69 (ix2 s d) = if s.val < 4 then 1#1 else 0#1 := by
    refine Eq.trans (b := IntOp.cmpi CmpIPredicate.slt (BitVec.ofNat 32 s.val) 4#32) ?_ ?_
    · pointwise [k0_pay69]
    · revert s; decide
  rw [e]
  split <;> rfl

/-- A sum over the block's rows that vanishes past the tokens is the sum over the tokens. -/
theorem tokens (f : Fin 16 → EReal) (h : ∀ s : Fin 16, ¬ s.val < 4 → f s = 0) : ∑ s : Fin 16, f s = ∑ k : Fin 4, f (tok k) := by
  refine (Fin.sum_univ_add (a := 4) (b := 12) f).trans ?_
  have e : ∑ k : Fin 12, f (Fin.natAdd 4 k) = 0 := Finset.sum_eq_zero fun k _ => h _ (by simp)
  rw [e, add_zero]
  rfl

/-- The prefix sums' table: a row of it picks the rows of the block up to its own, and every row past the sixteenth. -/
def picks (j : Fin 32) (s : Fin 16) : EReal := if 16 ≤ j.val ∨ s.val ≤ j.val then 1 else 0

/-- The product with the table: each row of it sums the tokens' rows that it picks. -/
theorem prefixes (cm : Vec Ideal S32x16 .bf16) (hcm : ∀ j s, cm (ix2 j s) = picks j s) (x : Vec Ideal S16x128 .f32) (d : Fin 128) (hx : ∀ s, x (ix2 s d) ≠ ⊤) (j : Fin 32) :
    k0_pay72 cm x (ix2 j d) = ∑ k : Fin 4, picks j (tok k) * x (ix2 (tok k) d) := by
  obtain ⟨y, hy⟩ : ∃ y : Fin 16 → EReal, ∀ s, y s = Scalar.select (k0_pay69 (ix2 s d)) (x (ix2 s d)) 0 := ⟨_, fun _ => rfl⟩
  have key : k0_pay72 cm x (ix2 j d) = ∑ s : Fin 16, (cm (ix2 j s) * y s + cm (ix2 j s) * (y s - y s) + cm (ix2 j s) * (y s - y s - (y s - y s))) := by
    rw [Finset.sum_add_distrib, Finset.sum_add_distrib]
    pointwise [k0_pay72, k0_pay71]
    refine congrArg₂ (· + ·) (congrArg₂ (· + ·) (Finset.sum_congr rfl fun s _ => ?_) (Finset.sum_congr rfl fun s _ => ?_)) (Finset.sum_congr rfl fun s _ => ?_)
    · rw [hy, mask, mask]; split <;> simp
    · rw [hy]
    · have h1 : ¬ 256 + d.val < 128 := by omega
      have h2 : ¬ 256 + d.val - 128 < 128 := by omega
      have h3 : (⟨256 + d.val - 128 - 128, by omega⟩ : Fin 128) = d := Fin.ext (by show 256 + d.val - 128 - 128 = d.val; omega)
      rw [dif_neg h1, dif_neg h2, h3, hy]
  rw [key]
  refine (Finset.sum_congr rfl fun s _ => parts _ _ ?_ ?_).trans ?_
  · rw [hcm]; unfold picks; split <;> simp
  · rw [hy, mask]
    split
    · exact hx s
    · exact EReal.zero_ne_top
  refine (tokens _ fun s hs => by rw [hy, mask, if_neg hs, mul_zero]).trans (Finset.sum_congr rfl fun k _ => ?_)
  rw [hy, mask, if_pos (show (tok k).val < 4 from k.isLt), hcm]

/-- A row of the table past the sixteenth sums all the tokens' rows, -/
theorem picks_all (L : Fin 4 → EReal) (j : Fin 32) (hj : 16 ≤ j.val) : ∑ k : Fin 4, picks j (tok k) * L k = upto L 3 := by
  refine Finset.sum_congr rfl fun k _ => ?_
  rw [picks, if_pos (Or.inl hj), one_mul, if_pos (show k ≤ 3 from Nat.le_of_lt_succ k.isLt)]

/-- and a token's row those up to its own. -/
theorem picks_upto (L : Fin 4 → EReal) (j : Fin 32) (s : Fin 4) (hj : j.val = s.val) : ∑ k : Fin 4, picks j (tok k) * L k = upto L s := by
  refine Finset.sum_congr rfl fun k _ => ?_
  have : s.val < 4 := s.isLt
  by_cases h : k ≤ s
  · rw [picks, if_pos (Or.inr (show k.val ≤ j.val by rw [hj]; exact h)), one_mul, if_pos h]
  · rw [picks, if_neg (by
      rintro (h' | h')
      · omega
      · exact h (show k.val ≤ s.val by rw [← hj]; exact h')), zero_mul, if_neg h]

/-- What a head's new state is: its old one decayed over all the tokens, and each token's key and value, decayed over the tokens after it. -/
def next (st : EReal) (g : Fin 4 → EReal) (v : Fin 4 → EReal) : EReal :=
  st * Ideal.exp (upto (fun k => Ideal.log (g k)) 3)
    + ∑ s : Fin 4, v s * ((1 - g s) * Ideal.exp (upto (fun k => Ideal.log (g k)) 3 - upto (fun k => Ideal.log (g k)) s))

/-- The gates of a head's rows. -/
theorem gate_at (lb : Vec Ideal S1x128 .f32) (zf : Vec Ideal S16x128 .f32) (s : Fin 16) (d : Fin 128) : k0_pay65 lb zf (ix2 s d) = gate (lb (ix2 0 d)) (zf (ix2 s d)) := by
  unfold gate
  pointwise [k0_pay65]

/-- Their logarithms. -/
theorem log_at (lb : Vec Ideal S1x128 .f32) (zf : Vec Ideal S16x128 .f32) (s : Fin 16) (d : Fin 128) : k0_pay66 lb zf (ix2 s d) = Ideal.log (gate (lb (ix2 0 d)) (zf (ix2 s d))) := by
  rw [← gate_at]
  rfl

/-- A head's new state at an index, over the prefix sums. -/
theorem open_piece (cm : Vec Ideal S32x16 .bf16) (lb : Vec Ideal S1x128 .f32) (zf zi : Vec Ideal S16x128 .f32) (st : Vec Ideal S1x1x128x128 .f32) (d v : Fin 128) :
    piece cm lb zf zi st (ix4 0 0 d v) = st (ix4 0 0 d v) * Ideal.exp (k0_pay72 cm (k0_pay66 lb zf) (ix2 ⟨16, by omega⟩ d))
      + ∑ s : Fin 16, zi (ix2 s v) * (Scalar.select (k0_pay69 (ix2 s d)) (1 - k0_pay65 lb zf (ix2 s d)) 0
          * Ideal.exp (k0_pay72 cm (k0_pay66 lb zf) (ix2 ⟨16 + s.val, by omega⟩ d) - k0_pay72 cm (k0_pay66 lb zf) (ix2 ⟨s.val, by omega⟩ d))) := by
  unfold piece update
  generalize k0_pay66 lb zf = L
  pointwise [k0_pay5, k0_pay204, k0_pay200, k0_pay61, k0_pay74, k0_pay73, k0_pay77, k0_pay78, k0_pay70, k0_pay67]

/-- A head's new state at an index, where the lower bound is below infinity. -/
theorem piece_at (cm : Vec Ideal S32x16 .bf16) (hcm : ∀ j s, cm (ix2 j s) = picks j s) (lb : Vec Ideal S1x128 .f32) (zf zi : Vec Ideal S16x128 .f32) (st : Vec Ideal S1x1x128x128 .f32) (d v : Fin 128)
    (hlb : lb (ix2 0 d) ≠ ⊤) :
    piece cm lb zf zi st (ix4 0 0 d v) = next (st (ix4 0 0 d v)) (fun k => gate (lb (ix2 0 d)) (zf (ix2 (tok k) d))) (fun k => zi (ix2 (tok k) v)) := by
  have hx : ∀ s, k0_pay66 lb zf (ix2 s d) ≠ ⊤ := fun s => by
    rw [log_at]
    exact log_ne _ (gate_ne _ _ hlb)
  have all : ∀ j : Fin 32, 16 ≤ j.val → k0_pay72 cm (k0_pay66 lb zf) (ix2 j d) = upto (fun k => Ideal.log (gate (lb (ix2 0 d)) (zf (ix2 (tok k) d)))) 3 := fun j hj => by
    rw [prefixes cm hcm _ d hx j, picks_all (fun k => k0_pay66 lb zf (ix2 (tok k) d)) j hj]
    simp only [log_at]
  have some : ∀ (j : Fin 32) (s : Fin 4), j.val = s.val → k0_pay72 cm (k0_pay66 lb zf) (ix2 j d) = upto (fun k => Ideal.log (gate (lb (ix2 0 d)) (zf (ix2 (tok k) d)))) s := fun j s hj => by
    rw [prefixes cm hcm _ d hx j, picks_upto (fun k => k0_pay66 lb zf (ix2 (tok k) d)) j s hj]
    simp only [log_at]
  rw [open_piece, all _ (by simp)]
  unfold next
  refine congrArg₂ (· + ·) rfl ?_
  refine (tokens _ fun s hs => by rw [mask, if_neg hs, zero_mul, mul_zero]).trans (Finset.sum_congr rfl fun k _ => ?_)
  rw [mask, if_pos (show (tok k).val < 4 from k.isLt), all _ (by simp), some ⟨(tok k).val, _⟩ k rfl, gate_at]

end Cert.KernelIdeal.State

end
-- ==== Proof.StateRef.lean ====
module

public import proofs.«01_k».proof.Proof.StateMath
public import proofs.«01_k».proof.Proof.Gen.KernelRefIdeal.Read
public import Idealize.ShloMosaic.Lib.Pipeline.ValueKit
public import Idealize.ShloMosaic.PureOps.Ideal

@[expose] public section

set_option maxRecDepth 16384

noncomputable section

namespace Cert.KernelRefIdeal.State

open Cert.KernelRefIdeal Cert.KernelRefIdeal.Gen Cert.KernelRefIdeal.Read
open Cert.KernelIdeal.State (gate upto next)
open Idealize.ShloMosaic Idealize.ShloMosaic.TcCoe Idealize.ShloMosaic.Tactic
open Idealize.SL Idealize.SL.Sem

variable (x0 : (⟨S128x16384, .f32⟩ : BufTy).Contents (Elt Ideal)) (x1 : (⟨S2x4096, .f32⟩ : BufTy).Contents (Elt Ideal)) (x3 : (⟨S1x32x32x128x128, .f32⟩ : BufTy).Contents (Elt Ideal))

/-- A token's pre-activation at a column of the projections. -/
abbrev zs (b : Fin 32) (s : Fin 4) (n : Fin 16384) : EReal := x0 (ix2 ⟨b.val * 4 + s.val, by omega⟩ n)

/-- The decay gates. -/
theorem gates (b : Fin 32) (s : Fin 4) (n : Fin 4096) : val_main_v32 x0 x1 (ix3 b s n) = gate (val_main_v13 x1 (ix1 n)) (zs x0 b s ⟨4096 + n.val, by omega⟩) := by
  unfold val_main_v32 val_main_v31 val_main_v30 val_main_v29 val_main_v28 val_main_v27 val_main_v20
  generalize val_main_v13 x1 = l
  rw [gate, zero_sub]
  pointwise [val_main_v26, val_main_v25, val_main_v24, val_main_v23, val_main_v22, val_main_v21, val_main_v19, val_main_v16, val_main_v14, val_main_cst_2, val_main_cst_3, val_main_cst_4]

/-- The values, head by head. -/
theorem values (b : Fin 32) (h : Fin 32) (s : Fin 4) (v : Fin 128) : val_main_v41 x0 (ix4 b h s v) = zs x0 b s ⟨8192 + (h.val * 128 + v.val), by omega⟩ := by
  pointwise [val_main_v41, val_main_v40, val_main_v17, val_main_v14]

/-- The keys, head by head. -/
theorem keys (b : Fin 32) (h : Fin 32) (s : Fin 4) (d : Fin 128) : val_main_v36 x0 x1 (ix4 b h s d) = 1 - val_main_v32 x0 x1 (ix3 b s ⟨h.val * 128 + d.val, by omega⟩) := by
  unfold val_main_v36 val_main_v35 val_main_v34
  generalize val_main_v32 x0 x1 = g
  pointwise [val_main_v33, val_main_cst_5]

/-- The gates' logarithms, head by head. -/
theorem logs (b : Fin 32) (h : Fin 32) (s : Fin 4) (d : Fin 128) : val_main_v39 x0 x1 (ix4 b h s d) = Ideal.log (val_main_v32 x0 x1 (ix3 b s ⟨h.val * 128 + d.val, by omega⟩)) := by
  unfold val_main_v39 val_main_v38 val_main_v37
  generalize val_main_v32 x0 x1 = g
  pointwise

/-- The result, over the sums of the logarithms. -/
theorem result (b h : Fin 32) (d v : Fin 128) : val_main_v55 x0 x1 x3 (ix4 b h d v)
    = Ideal.exp (val_main_v42 x0 x1 (ix4 b h 3 d)) * x3 (ix5 0 b h d v)
      + ∑ s : Fin 4, (val_main_v36 x0 x1 (ix4 b h s d) * Ideal.exp (val_main_v42 x0 x1 (ix4 b h 3 d) - val_main_v42 x0 x1 (ix4 b h s d))) * val_main_v41 x0 (ix4 b h s v) := by
  unfold val_main_v55 val_main_v54 val_main_v53 val_main_v52 val_main_v51 val_main_v50 val_main_v49 val_main_v48 val_main_v47 val_main_v46 val_main_v45 val_main_v44 val_main_v43
  generalize val_main_v42 x0 x1 = B
  generalize val_main_v41 x0 = V
  generalize val_main_v36 x0 x1 = K
  pointwise

/-- A running sum over a list, as a sum. -/
theorem fold_sum {N : Nat} (g : Fin N → EReal) : (List.finRange N).foldl (fun r n => r + g n) 0 = ∑ n : Fin N, g n := by
  have e : ∀ (l : List (Fin N)) (r : EReal), l.foldl (fun r n => r + g n) r = r + (l.map g).sum := fun l => by
    induction l with
    | nil => intro r; simp
    | cons a l ih => intro r; rw [List.foldl_cons, ih, List.map_cons, List.sum_cons, add_assoc]
  rw [e, zero_add, Fin.sum_univ_def]

/-- The window's positions are the four tokens'. -/
theorem spots : ∀ n : Fin 4, ∀ a : Fin 4, ((⟨4, ![1, 1, 4, 1]⟩ : Shape).rowMajor.symm (n.cast (by decide : 4 = (⟨4, ![1, 1, 4, 1]⟩ : Shape).numel)) a).val = (![0, 0, n.val, 0] : Fin 4 → Nat) a := by
  decide +kernel

/-- The window sums. -/
theorem window (x : FVec Ideal S32x32x4x128 .f32) (b h : Fin 32) (j : Fin 4) (d : Fin 128) :
    Host.reduceWindowAdd (F := Ideal) ![1, 1, 4, 1] ![1, 1, 1, 1] ![0, 0, 3, 0] ![0, 0, 0, 0] x (val_main_call1_call0_v0 (F := Ideal)) reduceWindows_S32x32x4x128_S32x32x4x128_w1s1p0_0_w1s1p0_0_w4s1p3_0_w1s1p0_0 h_S_ (ix4 b h j d)
      = upto (fun k => x (ix4 b h k d)) j := by
  have z : ∀ i, val_main_call1_call0_v0 (F := Ideal) i = 0 := fun i => by
    pointwise [val_main_call1_call0_v0, val_main_call1_call0_cst]
  unfold Host.reduceWindowAdd
  simp only [Ideal.hostReduceWindowAdd_def]
  unfold Ideal.hostReduceWindowAdd Host.reduceWindow
  rw [z]
  refine (fold_sum _).trans ?_
  rw [← Equiv.sum_comp (finCongr (by decide : 4 = (⟨4, ![1, 1, 4, 1]⟩ : Shape).numel))]
  refine (Finset.sum_congr rfl fun n _ => (?_ : _ = if hn : 3 ≤ j.val + n.val then x (ix4 b h ⟨j.val + n.val - 3, by omega⟩ d) else 0)).trans ?_
  · have w := spots n
    have w0 := w 0
    have w1 := w 1
    have w2 := w 2
    have w3 := w 3
    change _ = 0 at w0
    change _ = 0 at w1
    change _ = n.val at w2
    change _ = 0 at w3
    split
    · next hin =>
      have h2 := (hin 2).1
      change 3 ≤ j.val * 1 + _ at h2
      have h2' : 3 ≤ j.val + n.val := by
        have e : j.val * 1 + n.val = j.val + n.val := by omega
        rw [← e, ← w2]; exact h2
      rw [dif_pos h2']
      refine congrArg x (funext fun a => Fin.ext ?_)
      match a with
      | ⟨0, _⟩ => show b.val * 1 + _ - 0 = b.val; rw [Nat.sub_zero, Nat.mul_one]; exact (congrArg (b.val + ·) w0)
      | ⟨1, _⟩ => show h.val * 1 + _ - 0 = h.val; rw [Nat.sub_zero, Nat.mul_one]; exact (congrArg (h.val + ·) w1)
      | ⟨2, _⟩ => show j.val * 1 + _ - 3 = j.val + n.val - 3; rw [Nat.mul_one]; exact (congrArg (fun z => j.val + z - 3) w2)
      | ⟨3, _⟩ => show d.val * 1 + _ - 0 = d.val; rw [Nat.sub_zero, Nat.mul_one]; exact (congrArg (d.val + ·) w3)
    · next hin =>
      rw [dif_neg]
      intro hle
      refine hin fun a => ?_
      have hb := b.isLt
      have hh := h.isLt
      have hd := d.isLt
      have hj := j.isLt
      have hn := n.isLt
      match a with
      | ⟨0, _⟩ => exact (show ∀ q : Nat, q = 0 → 0 ≤ b.val * 1 + q ∧ b.val * 1 + q - 0 < 32 by omega) _ w0
      | ⟨1, _⟩ => exact (show ∀ q : Nat, q = 0 → 0 ≤ h.val * 1 + q ∧ h.val * 1 + q - 0 < 32 by omega) _ w1
      | ⟨2, _⟩ => exact (show ∀ q : Nat, q = n.val → 3 ≤ j.val * 1 + q ∧ j.val * 1 + q - 3 < 4 by omega) _ w2
      | ⟨3, _⟩ => exact (show ∀ q : Nat, q = 0 → 0 ≤ d.val * 1 + q ∧ d.val * 1 + q - 0 < 128 by omega) _ w3
  · unfold upto
    generalize hL : (fun k : Fin 4 => x (ix4 b h k d)) = L
    have hL' : ∀ k, x (ix4 b h k d) = L k := fun k => congrFun hL k
    simp only [hL']
    rw [Fin.sum_univ_four, Fin.sum_univ_four]
    match j with
    | ⟨0, _⟩ => simp [Fin.ext_iff, Fin.le_def]
    | ⟨1, _⟩ => simp [Fin.ext_iff, Fin.le_def]
    | ⟨2, _⟩ => simp [Fin.ext_iff, Fin.le_def]
    | ⟨3, _⟩ => simp [Fin.ext_iff, Fin.le_def]

/-- The sums of the gates' logarithms. -/
theorem sums (b h : Fin 32) (j : Fin 4) (d : Fin 128) : val_main_v42 x0 x1 (ix4 b h j d) = upto (fun k => Ideal.log (val_main_v32 x0 x1 (ix3 b k ⟨h.val * 128 + d.val, by omega⟩))) j := by
  unfold val_main_v42
  rw [window]
  simp only [logs]

/-- The reference's new state, token by token. -/
theorem state (b h : Fin 32) (d v : Fin 128) : val_main_v55 x0 x1 x3 (ix4 b h d v)
    = next (x3 (ix5 0 b h d v)) (fun s => gate (val_main_v13 x1 (ix1 ⟨h.val * 128 + d.val, by omega⟩)) (zs x0 b s ⟨4096 + (h.val * 128 + d.val), by omega⟩))
        (fun s => zs x0 b s ⟨8192 + (h.val * 128 + v.val), by omega⟩) := by
  rw [result]
  unfold next
  simp only [sums, keys, values, gates]
  refine congrArg₂ (· + ·) (mul_comm _ _) (Finset.sum_congr rfl fun s _ => mul_comm _ _)

/-- The lower window's positions are the two rows'. -/
theorem spots_lower : ∀ n : Fin 2, ∀ a : Fin 2, ((⟨2, ![2, 1]⟩ : Shape).rowMajor.symm (n.cast (by decide : 2 = (⟨2, ![2, 1]⟩ : Shape).numel)) a).val = (![n.val, 0] : Fin 2 → Nat) a := by
  decide +kernel

/-- A share of a sum of what is not negative is below infinity. -/
theorem share_ne (p q : EReal) (hp : 0 ≤ p) (hq : 0 ≤ q) : Ideal.div p (p + q) ≠ ⊤ := by
  induction p using EReal.rec with
  | bot => simp at hp
  | top =>
    induction q using EReal.rec with
    | bot => simp at hq
    | top => simp [Ideal.div]
    | coe s => simp [Ideal.div]
  | coe r =>
    induction q using EReal.rec with
    | bot => simp at hq
    | top => simp [Ideal.div]
    | coe s =>
      rw [← EReal.coe_add, Ideal.div]
      have hr := EReal.coe_nonneg.mp hp
      have hs := EReal.coe_nonneg.mp hq
      split
      · next h0 =>
        have e : r = 0 := by have := EReal.coe_eq_zero.mp h0; linarith
        subst e
        simp
      · rw [← EReal.coe_inv, ← EReal.coe_mul]
        exact EReal.coe_ne_top _

/-- The lower bound of the gates is below infinity. -/
theorem lower_ne (n : Fin 4096) : val_main_v13 x1 (ix1 n) ≠ ⊤ := by
  have sh : ∀ n : Fin 4096, val_main_v10 x1 (ix2 0 n) ≠ ⊤ := fun n => by
    have e : val_main_v10 x1 (ix2 0 n) = Ideal.div (Ideal.exp (val_main_v5 x1 (ix2 0 n))) (Ideal.exp (val_main_v5 x1 (ix2 0 n)) + Ideal.exp (val_main_v5 x1 (ix2 1 n))) := by
      unfold val_main_v10 val_main_v9 val_main_v8 val_main_v7 val_main_v6
      generalize val_main_v5 x1 = y
      pointwise [val_main_cst_1]
      rw [Fin.sum_univ_two]
    rw [e]
    exact share_ne _ _ (Cert.KernelIdeal.State.exp_nonneg _) (Cert.KernelIdeal.State.exp_nonneg _)
  have lo : val_main_v13 x1 (ix1 n) = val_main_v11 x1 (ix2 0 n) := by
    unfold val_main_v13 val_main_v12
    generalize val_main_v11 x1 = y
    pointwise
  have z : ∀ i, val_main_call0_call0_v0 (F := Ideal) i = 0 := fun i => by
    pointwise [val_main_call0_call0_v0, val_main_call0_call0_cst]
  have e : val_main_v11 x1 (ix2 0 n) = val_main_v10 x1 (ix2 0 n) := by
    unfold val_main_v11
    generalize val_main_v10 x1 = x
    unfold Host.reduceWindowAdd
    simp only [Ideal.hostReduceWindowAdd_def]
    unfold Ideal.hostReduceWindowAdd Host.reduceWindow
    rw [z]
    refine (fold_sum _).trans ?_
    rw [← Equiv.sum_comp (finCongr (by decide : 2 = (⟨2, ![2, 1]⟩ : Shape).numel)), Fin.sum_univ_two]
    have a0 := spots_lower 0 0
    have b0 := spots_lower 1 0
    have b1 := spots_lower 1 1
    change _ = 0 at a0
    change _ = 1 at b0
    change _ = 0 at b1
    refine (congrArg₂ (· + ·) (dif_neg fun hin => ?_) ((dif_pos fun a => ?_).trans (congrArg x (funext fun a => Fin.ext ?_)))).trans (zero_add _)
    · have h0 := (hin 0).1
      change 1 ≤ 0 * 1 + _ at h0
      exact (show ∀ q : Nat, q = 0 → ¬ 1 ≤ 0 * 1 + q by omega) _ a0 h0
    · have hn := n.isLt
      match a with
      | ⟨0, _⟩ => exact (show ∀ q : Nat, q = 1 → 1 ≤ 0 * 1 + q ∧ 0 * 1 + q - 1 < 2 by omega) _ b0
      | ⟨1, _⟩ => exact (show ∀ q : Nat, q = 0 → 0 ≤ n.val * 1 + q ∧ n.val * 1 + q - 0 < 4096 by omega) _ b1
    · match a with
      | ⟨0, _⟩ => exact (show ∀ q : Nat, q = 1 → 0 * 1 + q - 1 = 0 by omega) _ b0
      | ⟨1, _⟩ => exact (show ∀ q : Nat, q = 0 → n.val * 1 + q - 0 = n.val by omega) _ b1
  rw [lo, e]
  exact sh n

end Cert.KernelRefIdeal.State

end
-- ==== Proof.StateValue.lean ====
module

public import proofs.«01_k».proof.Proof.StateTiles
public import proofs.«01_k».proof.Proof.StateMath
public import proofs.«01_k».proof.Proof.StateRef
public import Idealize.ShloMosaic.Lib.Pipeline.ValueKit

@[expose] public section

set_option maxRecDepth 16384

noncomputable section

namespace Cert.KernelIdeal.State

open Cert.KernelIdeal Cert.KernelIdeal.Gen Cert.KernelIdeal.Hgrn
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ)

/-- The windows' block indices at every point. -/
theorem idx : ∀ t : Fin cfg0.N, win0_1.index t = ![(grid0.coords t 0).val, 4 + (grid0.coords t 1).val]
    ∧ win0_2.index t = ![(grid0.coords t 0).val, 8 + (grid0.coords t 1).val]
    ∧ win0_4.index t = ![0, (grid0.coords t 1).val]
    ∧ win0_6.index t = ![0, 0]
    ∧ win0_9.index t = ![(grid0.coords t 0).val, (grid0.coords t 1).val, 0, 0]
    ∧ win0_11.index t = ![(grid0.coords t 0).val, (grid0.coords t 1).val, 0, 0] :=
  (by decide +kernel : ∀ t : Fin grid0.N, _)

/-- The sequence of a point. -/
def seq (t : Fin cfg0.N) : Fin 32 := grid0.coords t 0

/-- The head group of a point. -/
def group (t : Fin cfg0.N) : Fin 4 := grid0.coords t 1

/-- The activations with each sequence's rows padded to sixteen, as the host leaves them. -/
abbrev PADDED (X : FVec Ideal S128x16384 .f32) : FVec Ideal S512x16384 .f32 :=
  shapeCast S512x16384 (concatenate S32x16x16384 1 [⟨S32x4x16384, shapeCast S32x4x16384 X shapeCasts_S128x16384_S32x4x16384⟩,
    ⟨S32x12x16384, broadcastInDim S32x12x16384 ![] bcast_S_S32x12x16384 (constant (F := Ideal) S_ .f32 0x00000000#32)⟩] concatenates_S32x4x16384_S32x12x16384_S32x16x16384_d1) shapeCasts_S32x16x16384_S512x16384

/-- What the region finds of the activations. -/
theorem entry_rows (c : Dev nD) : V m c main_v17 = PADDED (m ((c : Thread nD τ).loc main_arg0)) := by
  unfold V
  simp only [hostOps0, hostOps0_1, hostOps0_2, List.flatten_cons, List.flatten_nil, List.append_nil, List.cons_append, List.nil_append]
  after_results
  try rfl

/-- What the region finds of the lower bounds. -/
theorem entry_lower (c : Dev nD) : V m c main_v20 = shapeCast S1x4096 (Cert.KernelRefIdeal.Read.val_main_v13 (F := Ideal) (m ((c : Thread nD τ).loc main_arg1))) shapeCasts_S4096_S1x4096 := by
  unfold V
  simp only [hostOps0, hostOps0_1, hostOps0_2, List.flatten_cons, List.flatten_nil, List.append_nil, List.cons_append, List.nil_append]
  after_results
  try rfl

/-- What the region finds of the old states. -/
theorem entry_state (c : Dev nD) : V m c main_v19 = shapeCast S32x32x128x128 (m ((c : Thread nD τ).loc main_arg3)) shapeCasts_S1x32x32x128x128_S32x32x128x128 := by
  unfold V
  simp only [hostOps0, hostOps0_1, hostOps0_2, List.flatten_cons, List.flatten_nil, List.append_nil, List.cons_append, List.nil_append]
  after_results
  try rfl

/-- What the region finds of the prefix table. -/
theorem entry_table (c : Dev nD) : V m c main_cst = fun i => FloatOps.ofBits (F := Ideal) .bf16 (lit0 (S32x16.rowMajor i)) := by
  unfold V
  simp only [hostOps0, hostOps0_1, hostOps0_2, List.flatten_cons, List.flatten_nil, List.append_nil, List.cons_append, List.nil_append]
  after_results
  try rfl

/-- The prefix table's words. -/
theorem words : ∀ (j : Fin 32) (s : Fin 16), lit0 (S32x16.rowMajor (ix2 j s)) = if 16 ≤ j.val ∨ s.val ≤ j.val then 0x3F80#16 else 0x0000#16 := by
  decide +kernel

/-- A token's row of the padded activations. -/
theorem padded_at (X : FVec Ideal S128x16384 .f32) (b : Fin 32) (k : Fin 4) (n : Fin 16384) :
    PADDED X (ix2 ⟨b.val * 16 + k.val, by omega⟩ n) = Cert.KernelRefIdeal.State.zs X b k n := by
  unfold Cert.KernelRefIdeal.State.zs
  pointwise [PADDED]
  have e : (b.val * 16 + k.val) % 16 = k.val := by omega
  rw [dif_pos (by omega)]
  refine congrArg X (congrArg (ix2 · n) (Fin.ext ?_))
  show b.val * 4 + (b.val * 16 + k.val) % 16 = b.val * 4 + k.val
  rw [e]

/-- The prefix table at a point. -/
theorem table_point (c : Dev nD) (t : Fin cfg0.N) (j : Fin 32) (s : Fin 16) : iblk m c 6 t (ix2 j s) = picks j s := by
  have e : iblk m c 6 t (ix2 j s) = V m c main_cst (ix2 j s) := by
    refine congrArg (V m c main_cst) ?_
    blk_ext [idx t]
  refine (e.trans (congrFun (entry_table m c) (ix2 j s))).trans ((congrArg (FloatOps.ofBits (F := Ideal) .bf16) (words j s)).trans ?_)
  unfold picks
  split
  · pointwise
  · pointwise

/-- The lower bounds at a point. -/
theorem lower_point (c : Dev nD) (t : Fin cfg0.N) (h : Fin 8) (d : Fin 128) : row (iblk m c 4 t) h (ix2 0 d)
    = Cert.KernelRefIdeal.Read.val_main_v13 (F := Ideal) (m ((c : Thread nD τ).loc main_arg1)) (ix1 ⟨(8 * (group t).val + h.val) * 128 + d.val, by omega⟩) := by
  have e : row (iblk m c 4 t) h (ix2 0 d) = V m c main_v20 (ix2 0 ⟨(8 * (group t).val + h.val) * 128 + d.val, by omega⟩) := by
    refine congrArg (V m c main_v20) ?_
    blk_ext [idx t, group]
  rw [e, entry_lower]
  generalize Cert.KernelRefIdeal.Read.val_main_v13 (F := Ideal) (m ((c : Thread nD τ).loc main_arg1)) = y
  pointwise

/-- The old states read without the leading axis. -/
theorem old_at (x : FVec Ideal S1x32x32x128x128 .f32) (b h : Fin 32) (d v : Fin 128) :
    (shapeCast S32x32x128x128 x shapeCasts_S1x32x32x128x128_S32x32x128x128 : FVec Ideal S32x32x128x128 .f32) (ix4 b h d v) = x (ix5 0 b h d v) := by
  pointwise

/-- The old state at a point. -/
theorem state_point (c : Dev nD) (t : Fin cfg0.N) (h : Fin 8) (d v : Fin 128) : plane (iblk m c 9 t) h (ix4 0 0 d v)
    = m ((c : Thread nD τ).loc main_arg3) (ix5 0 (seq t) ⟨8 * (group t).val + h.val, by omega⟩ d v) := by
  have e : plane (iblk m c 9 t) h (ix4 0 0 d v) = V m c main_v19 (ix4 (seq t) ⟨8 * (group t).val + h.val, by omega⟩ d v) := by
    refine congrArg (V m c main_v19) ?_
    blk_ext [idx t, group, seq]
  exact e.trans ((congrFun (entry_state m c) _).trans (old_at _ _ _ _ _))

/-- The gates' columns at a point. -/
theorem gates_point (c : Dev nD) (t : Fin cfg0.N) (h : Fin 8) (k : Fin 4) (d : Fin 128) : cols (iblk m c 1 t) h (ix2 (tok k) d)
    = Cert.KernelRefIdeal.State.zs (m ((c : Thread nD τ).loc main_arg0)) (seq t) k ⟨4096 + ((8 * (group t).val + h.val) * 128 + d.val), by omega⟩ := by
  rw [← padded_at, ← entry_rows m c]
  refine congrArg (V m c main_v17) ?_
  blk_ext [idx t, group, seq, tok]

/-- The values' columns at a point. -/
theorem values_point (c : Dev nD) (t : Fin cfg0.N) (h : Fin 8) (k : Fin 4) (d : Fin 128) : cols (iblk m c 2 t) h (ix2 (tok k) d)
    = Cert.KernelRefIdeal.State.zs (m ((c : Thread nD τ).loc main_arg0)) (seq t) k ⟨8192 + ((8 * (group t).val + h.val) * 128 + d.val), by omega⟩ := by
  rw [← padded_at, ← entry_rows m c]
  refine congrArg (V m c main_v17) ?_
  blk_ext [idx t, group, seq, tok]

/-- What the reference computes of the arguments. -/
abbrev REF (c : Dev nD) : FVec Ideal S32x32x128x128 .f32 :=
  Cert.KernelRefIdeal.Read.val_main_v55 (F := Ideal) (m ((c : Thread nD τ).loc main_arg0)) (m ((c : Thread nD τ).loc main_arg1)) (m ((c : Thread nD τ).loc main_arg3))

/-- What a point stores at a head is the reference's new state. -/
theorem point (c : Dev nD) (t : Fin cfg0.N) (h : Fin 8) (d v : Fin 128) :
    piece (iblk m c 6 t) (row (iblk m c 4 t) h) (cols (iblk m c 1 t) h) (cols (iblk m c 2 t) h) (plane (iblk m c 9 t) h) (ix4 0 0 d v)
      = REF m c (ix4 (seq t) ⟨8 * (group t).val + h.val, by omega⟩ d v) := by
  have hl := lower_point m c t h d
  rw [piece_at _ (table_point m c t) _ _ _ _ d v (by rw [hl]; exact Cert.KernelRefIdeal.State.lower_ne _ _)]
  unfold REF
  rw [Cert.KernelRefIdeal.State.state, hl, state_point]
  simp only [gates_point, values_point]

/-- The blocks written back cover the result. -/
theorem covers : (cfg0.win 11).Covers := by decide +kernel

/-- The new states after the run are the reference's. -/
theorem final (c : Dev nD) : (dats m 0 c).arrAt 11 (cfgs 0).N = REF m c := by
  refine (dats m 0 c).arrAt_eq_of_covers 11 _ covers fun t _ y => ?_
  blk_simp
  rw [after0_11, block]
  refine (point m c t (y 1) (y 2) (y 3)).trans (congrArg (REF m c) ?_)
  blk_ext [idx t, group, seq]

end Cert.KernelIdeal.State

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Body
public import proofs.«01_k».proof.Proof.Gen.KernelRefIdeal
public import proofs.«01_k».proof.Proof.Gen.KernelRefIdeal.Run
public import proofs.«01_k».proof.Proof.Gen.KernelRefIdeal.Read
public import proofs.«01_k».proof.Proof.Gen.Hg
public import proofs.«01_k».proof.Proof.Gen.Hg.Frame
public import proofs.«01_k».proof.Proof.Gen.HgIdeal
public import proofs.«01_k».proof.Proof.Gen.HgIdeal.Frame
public import proofs.«01_k».proof.Proof.Gen.HgIdeal.Value
public import proofs.«01_k».proof.Proof.Gen.HgRefIdeal
public import proofs.«01_k».proof.Proof.Gen.HgRefIdeal.Run
public import proofs.«01_k».proof.Proof.Gen.Qp
public import proofs.«01_k».proof.Proof.Gen.Qp.Frame
public import proofs.«01_k».proof.Proof.Gen.QpIdeal
public import proofs.«01_k».proof.Proof.Gen.QpIdeal.Frame
public import proofs.«01_k».proof.Proof.Gen.QpIdeal.Value
public import proofs.«01_k».proof.Proof.Gen.QpRefIdeal
public import proofs.«01_k».proof.Proof.Gen.QpRefIdeal.Run
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.Qi
public import proofs.«01_k».proof.Proof.Gen.Qi.Frame
public import proofs.«01_k».proof.Proof.Gen.QiIdeal
public import proofs.«01_k».proof.Proof.Gen.QiIdeal.Frame
public import proofs.«01_k».proof.Proof.Gen.QiIdeal.Value
public import proofs.«01_k».proof.Proof.Gen.QiRefIdeal
public import proofs.«01_k».proof.Proof.Gen.QiRefIdeal.Run
public import proofs.«01_k».proof.Proof.Gen.Sm
public import proofs.«01_k».proof.Proof.Gen.Sm.Frame
public import proofs.«01_k».proof.Proof.Gen.SmIdeal
public import proofs.«01_k».proof.Proof.Gen.SmIdeal.Frame
public import proofs.«01_k».proof.Proof.Gen.SmIdeal.Value
public import proofs.«01_k».proof.Proof.Gen.SmRefIdeal
public import proofs.«01_k».proof.Proof.Gen.SmRefIdeal.Run
public import proofs.«01_k».proof.Proof.Gen.Ga
public import proofs.«01_k».proof.Proof.Gen.Ga.Frame
public import proofs.«01_k».proof.Proof.Gen.GaIdeal
public import proofs.«01_k».proof.Proof.Gen.GaIdeal.Frame
public import proofs.«01_k».proof.Proof.Gen.GaIdeal.Value
public import proofs.«01_k».proof.Proof.Gen.GaRefIdeal
public import proofs.«01_k».proof.Proof.Gen.GaRefIdeal.Run
public import proofs.«01_k».proof.Proof.Gen.Op
public import proofs.«01_k».proof.Proof.Gen.Op.Frame
public import proofs.«01_k».proof.Proof.Gen.OpIdeal
public import proofs.«01_k».proof.Proof.Gen.OpIdeal.Frame
public import proofs.«01_k».proof.Proof.Gen.OpIdeal.Value
public import proofs.«01_k».proof.Proof.Gen.OpRefIdeal
public import proofs.«01_k».proof.Proof.Gen.OpRefIdeal.Run
public import proofs.«01_k».proof.Proof.Gen.Nm
public import proofs.«01_k».proof.Proof.Gen.Nm.Frame
public import proofs.«01_k».proof.Proof.Gen.NmIdeal
public import proofs.«01_k».proof.Proof.Gen.NmIdeal.Frame
public import proofs.«01_k».proof.Proof.Gen.NmIdeal.Value
public import proofs.«01_k».proof.Proof.NmValue
public import proofs.«01_k».proof.Proof.Gen.NmRefIdeal
public import proofs.«01_k».proof.Proof.Gen.NmRefIdeal.Run
public import proofs.«01_k».proof.Proof.Gen.NmRefIdeal.Read
public import proofs.«01_k».proof.Proof.Gen.Mg
public import proofs.«01_k».proof.Proof.Gen.Mg.Frame
public import proofs.«01_k».proof.Proof.Gen.MgIdeal
public import proofs.«01_k».proof.Proof.Gen.MgIdeal.Frame
public import proofs.«01_k».proof.Proof.Gen.MgIdeal.Value
public import proofs.«01_k».proof.Proof.MgValue
public import proofs.«01_k».proof.Proof.Gen.MgRefIdeal
public import proofs.«01_k».proof.Proof.Gen.MgRefIdeal.Run
public import proofs.«01_k».proof.Proof.Gen.MgRefIdeal.Read
public import proofs.«01_k».proof.Proof.HgValue
public import proofs.«01_k».proof.Proof.QpValue
public import proofs.«01_k».proof.Proof.KvValue
public import proofs.«01_k».proof.Proof.QiValue
public import proofs.«01_k».proof.Proof.SmValue
public import proofs.«01_k».proof.Proof.GaValue
public import proofs.«01_k».proof.Proof.OpValue
public import proofs.«01_k».proof.Proof.Frame
public import proofs.«01_k».proof.Proof.StateValue
public import Idealize.ShloMosaic.Adequacy
public import Idealize.ShloMosaic.Init

@[expose] public section

noncomputable section

namespace Cert.Proof

open Idealize.ShloMosaic Idealize.SL.Sem Cert.Kernel

/-- The kernel's frame over the reals. -/
theorem frame_ideal : Cert.quiescent_KernelIdeal := fun m ρ _ => Cert.KernelIdeal.Hgrn.frame (F := Ideal) m ρ

/-- The frame statement of the idealized program at the bits. -/
def frameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The two programs have the same text, so at the bits the two statements are one. -/
theorem frameAtBits_eq : frameAtBits = Cert.quiescent_Kernel := by
  sl_kernel_rfl

/-- The kernel's frame over the bits: the same run, at the bits. -/
theorem frame_kernel : Cert.quiescent_Kernel :=
  frameAtBits_eq.mp fun m ρ _ => Cert.KernelIdeal.Hgrn.frame (F := Bits) m ρ

/-- The reference of the recurrence runs and leaves its arguments; it declares no semaphore. -/
theorem frame_ref : Cert.quiescent_KernelRefIdeal := fun m ρ _ =>
  (θ_run Cert.KernelRefIdeal.defs _ _).mono (fun r h => ⟨fun c => (h c).2, Idealize.ShloMosaic.sem_eq_zero_of_no_sems (by decide) r.2⟩)
    (Cert.KernelRefIdeal.Value.run (F := Ideal) m ρ)

/-- Over the reals the states that the kernel and the reference leave are equal at every element. -/
theorem algebraic : Cert.algebraic_KernelIdeal_KernelRefIdeal := by
  intro m g m' g' _ hag
  refine ⟨fun c => (Cert.KernelIdeal.Hgrn.dats m 0 c).arrAt 11 (Cert.KernelIdeal.cfgs 0).N, ?_, ?_⟩
  · exact (θ_run Cert.KernelIdeal.defs _ _).mono (fun r h c => ⟨(h.1 c).1 11, h.2.1 c⟩)
      (θ_run_and (Cert.KernelIdeal.Hgrn.run_main (F := Ideal) m g) (Cert.KernelIdeal.Hgrn.frame (F := Ideal) m g))
  · refine (θ_run Cert.KernelRefIdeal.defs _ _).mono (fun r h c => ⟨(h c).1.trans ?_, (h c).2⟩) (Cert.KernelRefIdeal.Value.run (F := Ideal) m' g')
    refine (Cert.KernelRefIdeal.Read.val_main_v55_eq m' c).trans (Eq.trans ?_ (Cert.KernelIdeal.State.final m c).symm)
    rw [(hag c).1, (hag c).2.1, (hag c).2.2.2]

/-- The reference of the recurrence's projections runs and leaves its arguments; it declares no semaphore. -/
theorem frame_hg_ref : Cert.quiescent_HgRefIdeal := fun m ρ _ =>
  (θ_run Cert.HgRefIdeal.defs _ _).mono (fun r h => ⟨fun c => (h c).2, Idealize.ShloMosaic.sem_eq_zero_of_no_sems (by decide) r.2⟩)
    (Cert.HgRefIdeal.Value.run (F := Ideal) m ρ)

/-- Over the reals the recurrence's projections of the kernel and of the reference are equal at every element. -/
theorem algebraic_hg : Cert.algebraic_HgIdeal_HgRefIdeal := by
  intro m g m' g' _ hag
  refine ⟨fun c => (Cert.HgIdeal.Gen.dats m 0 c).arrAt 2 Cert.HgIdeal.cfg0.N, Cert.HgIdeal.Value.run_blocks m g, ?_⟩
  refine (θ_run Cert.HgRefIdeal.defs _ _).mono (fun r h c => ⟨(h c).1.trans ?_, (h c).2⟩) (Cert.HgRefIdeal.Value.run (F := Ideal) m' g')
  refine Eq.trans ?_ (Cert.HgIdeal.Product.final m c).symm
  rw [(hag c).1, (hag c).2]

/-- The reference of the queries' projection runs and leaves its arguments; it declares no semaphore. -/
theorem frame_qp_ref : Cert.quiescent_QpRefIdeal := fun m ρ _ =>
  (θ_run Cert.QpRefIdeal.defs _ _).mono (fun r h => ⟨fun c => (h c).2, Idealize.ShloMosaic.sem_eq_zero_of_no_sems (by decide) r.2⟩)
    (Cert.QpRefIdeal.Value.run (F := Ideal) m ρ)

/-- Over the reals the queries' projection of the kernel and of the reference are equal at every element. -/
theorem algebraic_qp : Cert.algebraic_QpIdeal_QpRefIdeal := by
  intro m g m' g' _ hag
  refine ⟨fun c => (Cert.QpIdeal.Gen.dats m 0 c).arrAt 2 Cert.QpIdeal.cfg0.N, Cert.QpIdeal.Value.run_blocks m g, ?_⟩
  refine (θ_run Cert.QpRefIdeal.defs _ _).mono (fun r h c => ⟨(h c).1.trans ?_, (h c).2⟩) (Cert.QpRefIdeal.Value.run (F := Ideal) m' g')
  refine Eq.trans ?_ (Cert.QpIdeal.Product.final m c).symm
  rw [(hag c).1, (hag c).2]

/-- The reference of the keys' and values' projection runs and leaves its arguments; it declares no semaphore. -/
theorem frame_kv_ref : Cert.quiescent_KvRefIdeal := fun m ρ _ =>
  (θ_run Cert.KvRefIdeal.defs _ _).mono (fun r h => ⟨fun c => (h c).2, Idealize.ShloMosaic.sem_eq_zero_of_no_sems (by decide) r.2⟩)
    (Cert.KvRefIdeal.Value.run (F := Ideal) m ρ)

/-- Over the reals the keys' and values' projection of the kernel and of the reference are equal at every element. -/
theorem algebraic_kv : Cert.algebraic_KvIdeal_KvRefIdeal := by
  intro m g m' g' _ hag
  refine ⟨fun c => (Cert.KvIdeal.Gen.dats m 0 c).arrAt 2 Cert.KvIdeal.cfg0.N, Cert.KvIdeal.Value.run_blocks m g, ?_⟩
  refine (θ_run Cert.KvRefIdeal.defs _ _).mono (fun r h c => ⟨(h c).1.trans ?_, (h c).2⟩) (Cert.KvRefIdeal.Value.run (F := Ideal) m' g')
  refine Eq.trans ?_ (Cert.KvIdeal.Product.final m c).symm
  rw [(hag c).1, (hag c).2]

/-- The reference of the indexer queries' projection runs and leaves its arguments; it declares no semaphore. -/
theorem frame_qi_ref : Cert.quiescent_QiRefIdeal := fun m ρ _ =>
  (θ_run Cert.QiRefIdeal.defs _ _).mono (fun r h => ⟨fun c => (h c).2, Idealize.ShloMosaic.sem_eq_zero_of_no_sems (by decide) r.2⟩)
    (Cert.QiRefIdeal.Value.run (F := Ideal) m ρ)

/-- Over the reals the indexer queries' projection of the kernel and of the reference are equal at every element. -/
theorem algebraic_qi : Cert.algebraic_QiIdeal_QiRefIdeal := by
  intro m g m' g' _ hag
  refine ⟨fun c => (Cert.QiIdeal.Gen.dats m 0 c).arrAt 2 Cert.QiIdeal.cfg0.N, Cert.QiIdeal.Value.run_blocks m g, ?_⟩
  refine (θ_run Cert.QiRefIdeal.defs _ _).mono (fun r h c => ⟨(h c).1.trans ?_, (h c).2⟩) (Cert.QiRefIdeal.Value.run (F := Ideal) m' g')
  refine Eq.trans ?_ (Cert.QiIdeal.Product.final m c).symm
  rw [(hag c).1, (hag c).2]

/-- The reference of the small projections runs and leaves its arguments; it declares no semaphore. -/
theorem frame_sm_ref : Cert.quiescent_SmRefIdeal := fun m ρ _ =>
  (θ_run Cert.SmRefIdeal.defs _ _).mono (fun r h => ⟨fun c => (h c).2, Idealize.ShloMosaic.sem_eq_zero_of_no_sems (by decide) r.2⟩)
    (Cert.SmRefIdeal.Value.run (F := Ideal) m ρ)

/-- Over the reals the small projections of the kernel and of the reference are equal at every element. -/
theorem algebraic_sm : Cert.algebraic_SmIdeal_SmRefIdeal := by
  intro m g m' g' _ hag
  refine ⟨fun c => (Cert.SmIdeal.Gen.dats m 0 c).arrAt 2 Cert.SmIdeal.cfg0.N, Cert.SmIdeal.Value.run_blocks m g, ?_⟩
  refine (θ_run Cert.SmRefIdeal.defs _ _).mono (fun r h c => ⟨(h c).1.trans ?_, (h c).2⟩) (Cert.SmRefIdeal.Value.run (F := Ideal) m' g')
  refine Eq.trans ?_ (Cert.SmIdeal.Product.final m c).symm
  rw [(hag c).1, (hag c).2]

/-- The reference of the gates' projection runs and leaves its arguments; it declares no semaphore. -/
theorem frame_ga_ref : Cert.quiescent_GaRefIdeal := fun m ρ _ =>
  (θ_run Cert.GaRefIdeal.defs _ _).mono (fun r h => ⟨fun c => (h c).2, Idealize.ShloMosaic.sem_eq_zero_of_no_sems (by decide) r.2⟩)
    (Cert.GaRefIdeal.Value.run (F := Ideal) m ρ)

/-- Over the reals the gates' projection of the kernel and of the reference are equal at every element. -/
theorem algebraic_ga : Cert.algebraic_GaIdeal_GaRefIdeal := by
  intro m g m' g' _ hag
  refine ⟨fun c => (Cert.GaIdeal.Gen.dats m 0 c).arrAt 2 Cert.GaIdeal.cfg0.N, Cert.GaIdeal.Value.run_blocks m g, ?_⟩
  refine (θ_run Cert.GaRefIdeal.defs _ _).mono (fun r h c => ⟨(h c).1.trans ?_, (h c).2⟩) (Cert.GaRefIdeal.Value.run (F := Ideal) m' g')
  refine Eq.trans ?_ (Cert.GaIdeal.Product.final m c).symm
  rw [(hag c).1, (hag c).2]

/-- The reference of the output projection runs and leaves its arguments; it declares no semaphore. -/
theorem frame_op_ref : Cert.quiescent_OpRefIdeal := fun m ρ _ =>
  (θ_run Cert.OpRefIdeal.defs _ _).mono (fun r h => ⟨fun c => (h c).2, Idealize.ShloMosaic.sem_eq_zero_of_no_sems (by decide) r.2⟩)
    (Cert.OpRefIdeal.Value.run (F := Ideal) m ρ)

/-- Over the reals the output projection of the kernel and of the reference are equal at every element. -/
theorem algebraic_op : Cert.algebraic_OpIdeal_OpRefIdeal := by
  intro m g m' g' _ hag
  refine ⟨fun c => (Cert.OpIdeal.Gen.dats m 0 c).arrAt 3 Cert.OpIdeal.cfg0.N, Cert.OpIdeal.Value.run_blocks m g, ?_⟩
  refine (θ_run Cert.OpRefIdeal.defs _ _).mono (fun r h c => ⟨(h c).1.trans ?_, (h c).2⟩) (Cert.OpRefIdeal.Value.run (F := Ideal) m' g')
  refine Eq.trans ?_ (Cert.OpIdeal.Product.final m c).symm
  rw [(hag c).1, (hag c).2.1, (hag c).2.2]

/-- The reference of the mixing norm runs and leaves its arguments; it declares no semaphore. -/
theorem frame_nm_ref : Cert.quiescent_NmRefIdeal := fun m ρ _ =>
  (θ_run Cert.NmRefIdeal.defs _ _).mono (fun r h => ⟨fun c => (h c).2, Idealize.ShloMosaic.sem_eq_zero_of_no_sems (by decide) r.2⟩)
    (Cert.NmRefIdeal.Value.run (F := Ideal) m ρ)

/-- Over the reals the mixing norm of the kernel and of the reference are equal at every element. -/
theorem algebraic_nm : Cert.algebraic_NmIdeal_NmRefIdeal := by
  intro m g m' g' _ hag
  refine ⟨fun c => (Cert.NmIdeal.Gen.dats m 0 c).arrAt 2 Cert.NmIdeal.cfg0.N, Cert.NmIdeal.Value.run_blocks m g, ?_⟩
  refine (θ_run Cert.NmRefIdeal.defs _ _).mono (fun r h c => ⟨(h c).1.trans ?_, (h c).2⟩) (Cert.NmRefIdeal.Value.run (F := Ideal) m' g')
  refine Eq.trans ?_ (Cert.NmIdeal.Norm.final m c).symm
  refine (Cert.NmRefIdeal.Read.val_main_v31_eq _ _ _).trans ?_
  rw [(hag c).1, (hag c).2.1, (hag c).2.2]

/-- The reference of the gated merge runs and leaves its arguments; it declares no semaphore. -/
theorem frame_mg_ref : Cert.quiescent_MgRefIdeal := fun m ρ _ =>
  (θ_run Cert.MgRefIdeal.defs _ _).mono (fun r h => ⟨fun c => (h c).2, Idealize.ShloMosaic.sem_eq_zero_of_no_sems (by decide) r.2⟩)
    (Cert.MgRefIdeal.Value.run (F := Ideal) m ρ)

/-- Over the reals the gated merge of the kernel and of the reference are equal at every element. -/
theorem algebraic_mg : Cert.algebraic_MgIdeal_MgRefIdeal := by
  intro m g m' g' _ hag
  refine ⟨fun c => (Cert.MgIdeal.Gen.dats m 0 c).arrAt 6 Cert.MgIdeal.cfg0.N, Cert.MgIdeal.Value.run_blocks m g, ?_⟩
  refine (θ_run Cert.MgRefIdeal.defs _ _).mono (fun r h c => ⟨(h c).1.trans ?_, (h c).2⟩) (Cert.MgRefIdeal.Value.run (F := Ideal) m' g')
  refine Eq.trans ?_ (Cert.MgIdeal.Merge.final m c).symm
  refine (Cert.MgRefIdeal.Read.val_main_v37_eq _ _ _ _ _).trans ?_
  rw [(hag c).1, (hag c).2.1, (hag c).2.2.1, (hag c).2.2.2.1, (hag c).2.2.2.2]

/-- Every claim of the certificate. -/
theorem claim : Cert.Claim := ⟨Cert.Kernel.Gen.facts, Cert.KernelIdeal.Gen.facts, Cert.KernelRefIdeal.Gen.facts,
  Cert.Hg.Gen.facts, Cert.HgIdeal.Gen.facts, Cert.HgRefIdeal.Gen.facts, Cert.Qp.Gen.facts, Cert.QpIdeal.Gen.facts, Cert.QpRefIdeal.Gen.facts, Cert.Kv.Gen.facts, Cert.KvIdeal.Gen.facts, Cert.KvRefIdeal.Gen.facts, Cert.Qi.Gen.facts, Cert.QiIdeal.Gen.facts, Cert.QiRefIdeal.Gen.facts, Cert.Sm.Gen.facts, Cert.SmIdeal.Gen.facts, Cert.SmRefIdeal.Gen.facts, Cert.Ga.Gen.facts, Cert.GaIdeal.Gen.facts, Cert.GaRefIdeal.Gen.facts, Cert.Op.Gen.facts, Cert.OpIdeal.Gen.facts, Cert.OpRefIdeal.Gen.facts, Cert.Nm.Gen.facts, Cert.NmIdeal.Gen.facts, Cert.NmRefIdeal.Gen.facts, Cert.Mg.Gen.facts, Cert.MgIdeal.Gen.facts, Cert.MgRefIdeal.Gen.facts,
  frame_kernel, frame_ideal, frame_ref,
  fun m ρ _ => Cert.Hg.Gen.frame m ρ, fun m ρ _ => Cert.HgIdeal.Gen.frame m ρ, frame_hg_ref, fun m ρ _ => Cert.Qp.Gen.frame m ρ, fun m ρ _ => Cert.QpIdeal.Gen.frame m ρ, frame_qp_ref, fun m ρ _ => Cert.Kv.Gen.frame m ρ, fun m ρ _ => Cert.KvIdeal.Gen.frame m ρ, frame_kv_ref, fun m ρ _ => Cert.Qi.Gen.frame m ρ, fun m ρ _ => Cert.QiIdeal.Gen.frame m ρ, frame_qi_ref, fun m ρ _ => Cert.Sm.Gen.frame m ρ, fun m ρ _ => Cert.SmIdeal.Gen.frame m ρ, frame_sm_ref, fun m ρ _ => Cert.Ga.Gen.frame m ρ, fun m ρ _ => Cert.GaIdeal.Gen.frame m ρ, frame_ga_ref, fun m ρ _ => Cert.Op.Gen.frame m ρ, fun m ρ _ => Cert.OpIdeal.Gen.frame m ρ, frame_op_ref, fun m ρ _ => Cert.Nm.Gen.frame m ρ, fun m ρ _ => Cert.NmIdeal.Gen.frame m ρ, frame_nm_ref, fun m ρ _ => Cert.Mg.Gen.frame m ρ, fun m ρ _ => Cert.MgIdeal.Gen.frame m ρ, frame_mg_ref,
  trivial, algebraic, trivial, algebraic_hg, trivial, algebraic_qp, trivial, algebraic_kv, trivial, algebraic_qi, trivial, algebraic_sm, trivial, algebraic_ga, trivial, algebraic_op, trivial, algebraic_nm, trivial, algebraic_mg⟩

end Cert.Proof

end
